-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_d_model" .f32 0x39924925#32 ((1 / 3584 : ℝ) : EReal)
  ∧ IdealRules.named_const.Statement Cert.KernelIdeal.κ "inv_kv_lora" .f32 0x3B2AAAAB#32 ((1 / 384 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_v4_6) = v6 c
          ∧ r.2.mem ((c.tc : Thread Cert.ReferenceIdeal.nD Cert.ReferenceIdeal.τ).loc Cert.ReferenceIdeal.main_v4_7) = v7 c
          ∧ r.2.mem ((c.tc : Thread Cert.ReferenceIdeal.nD Cert.ReferenceIdeal.τ).loc Cert.ReferenceIdeal.main_v4_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S3584 : Shape := ⟨1, ![3584]⟩
abbrev S1024 : Shape := ⟨1, ![1024]⟩
abbrev S384 : Shape := ⟨1, ![384]⟩
abbrev S3584x1024 : Shape := ⟨2, ![3584, 1024]⟩
abbrev S28x8 : Shape := ⟨2, ![28, 8]⟩
abbrev S1024x3840 : Shape := ⟨2, ![1024, 3840]⟩
abbrev S8x30 : Shape := ⟨2, ![8, 30]⟩
abbrev S3584x416 : Shape := ⟨2, ![3584, 416]⟩
abbrev S28x4 : Shape := ⟨2, ![28, 4]⟩
abbrev S384x6400 : Shape := ⟨2, ![384, 6400]⟩
abbrev S3x50 : Shape := ⟨2, ![3, 50]⟩
abbrev S3840x3584 : Shape := ⟨2, ![3840, 3584]⟩
abbrev S30x28 : Shape := ⟨2, ![30, 28]⟩
abbrev S256x32 : Shape := ⟨2, ![256, 32]⟩
abbrev S256x3584 : Shape := ⟨2, ![256, 3584]⟩
abbrev S1x3584 : Shape := ⟨2, ![1, 3584]⟩
abbrev S1x1024 : Shape := ⟨2, ![1, 1024]⟩
abbrev S1x384 : Shape := ⟨2, ![1, 384]⟩
abbrev S256x28 : Shape := ⟨2, ![256, 28]⟩
abbrev S256x1024 : Shape := ⟨2, ![256, 1024]⟩
abbrev S256x8 : Shape := ⟨2, ![256, 8]⟩
abbrev S256x384 : Shape := ⟨2, ![256, 384]⟩
abbrev S256x3 : Shape := ⟨2, ![256, 3]⟩
abbrev S256x3840 : Shape := ⟨2, ![256, 3840]⟩
abbrev S256x30 : Shape := ⟨2, ![256, 30]⟩
abbrev S256x416 : Shape := ⟨2, ![256, 416]⟩
abbrev S256x6400 : Shape := ⟨2, ![256, 6400]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S1x256 : Shape := ⟨2, ![1, 256]⟩
abbrev S256x256 : Shape := ⟨2, ![256, 256]⟩
abbrev S128x128 : Shape := ⟨2, ![128, 128]⟩
abbrev S1x1 : Shape := ⟨2, ![1, 1]⟩
abbrev S128x256 : Shape := ⟨2, ![128, 256]⟩
abbrev S3584x256 : Shape := ⟨2, ![3584, 256]⟩
abbrev S128x32 : Shape := ⟨2, ![128, 32]⟩
abbrev S1x32 : Shape := ⟨2, ![1, 32]⟩
abbrev S128x160 : Shape := ⟨2, ![128, 160]⟩
abbrev S3584x160 : Shape := ⟨2, ![3584, 160]⟩
abbrev S256x160 : Shape := ⟨2, ![256, 160]⟩
abbrev S256x31 : Shape := ⟨2, ![256, 31]⟩
abbrev S1024x256 : Shape := ⟨2, ![1024, 256]⟩
abbrev S384x256 : Shape := ⟨2, ![384, 256]⟩
abbrev S256x64 : Shape := ⟨2, ![256, 64]⟩
abbrev S256x96 : Shape := ⟨2, ![256, 96]⟩
abbrev S128x64 : Shape := ⟨2, ![128, 64]⟩
abbrev S128 : Shape := ⟨1, ![128]⟩
abbrev S128x1 : Shape := ⟨2, ![128, 1]⟩
abbrev S128x96 : Shape := ⟨2, ![128, 96]⟩
abbrev S3840x256 : Shape := ⟨2, ![3840, 256]⟩

abbrev nBuf : Space → Nat
  | .hbm => 29
  | .vmem => 29
  | .smem => 5
  | _ => 0

abbrev bufTy : (tb : Table) → Fin (tcTables nBuf tb) → BufTy
  | .hbm, ⟨0, _⟩ => ⟨S2x128x3584, .bf16⟩
  | .hbm, ⟨1, _⟩ => ⟨S3584, .f32⟩
  | .hbm, ⟨2, _⟩ => ⟨S1024, .f32⟩
  | .hbm, ⟨3, _⟩ => ⟨S384, .f32⟩
  | .hbm, ⟨4, _⟩ => ⟨S3584x1024, .fp8e4m3⟩
  | .hbm, ⟨5, _⟩ => ⟨S28x8, .f32⟩
  | .hbm, ⟨6, _⟩ => ⟨S1024x3840, .fp8e4m3⟩
  | .hbm, ⟨7, _⟩ => ⟨S8x30, .f32⟩
  | .hbm, ⟨8, _⟩ => ⟨S3584x416, .fp8e4m3⟩
  | .hbm, ⟨9, _⟩ => ⟨S28x4, .f32⟩
  | .hbm, ⟨10, _⟩ => ⟨S384x6400, .fp8e4m3⟩
  | .hbm, ⟨11, _⟩ => ⟨S3x50, .f32⟩
  | .hbm, ⟨12, _⟩ => ⟨S3840x3584, .fp8e4m3⟩
  | .hbm, ⟨13, _⟩ => ⟨S30x28, .f32⟩
  | .hbm, ⟨14, _⟩ => ⟨S256x32, .f32⟩
  | .hbm, ⟨15, _⟩ => ⟨S256x32, .f32⟩
  | .hbm, ⟨16, _⟩ => ⟨S256x3584, .bf16⟩
  | .hbm, ⟨17, _⟩ => ⟨S1x3584, .f32⟩
  | .hbm, ⟨18, _⟩ => ⟨S1x1024, .f32⟩
  | .hbm, ⟨19, _⟩ => ⟨S1x384, .f32⟩
  | .hbm, ⟨20, _⟩ => ⟨S256x3584, .bf16⟩
  | .hbm, ⟨21, _⟩ => ⟨S256x3584, .fp8e4m3⟩
  | .hbm, ⟨22, _⟩ => ⟨S256x28, .f32⟩
  | .hbm, ⟨23, _⟩ => ⟨S256x1024, .fp8e4m3⟩
  | .hbm, ⟨24, _⟩ => ⟨S256x8, .f32⟩
  | .hbm, ⟨25, _⟩ => ⟨S256x384, .fp8e4m3⟩
  | .hbm, ⟨26, _⟩ => ⟨S256x3, .f32⟩
  | .hbm, ⟨27, _⟩ => ⟨S256x3840, .fp8e4m3⟩
  | .hbm, ⟨28, _⟩ => ⟨S256x30, .f32⟩
  | .local _ .vmem, ⟨0, _⟩ => ⟨S256x3584, .bf16⟩
  | .local _ .vmem, ⟨1, _⟩ => ⟨S1x3584, .f32⟩
  | .local _ .vmem, ⟨2, _⟩ => ⟨S1x1024, .f32⟩
  | .local _ .vmem, ⟨3, _⟩ => ⟨S1x384, .f32⟩
  | .local _ .vmem, ⟨4, _⟩ => ⟨S3584x1024, .fp8e4m3⟩
  | .local _ .vmem, ⟨5, _⟩ => ⟨S1024x3840, .fp8e4m3⟩
  | .local _ .vmem, ⟨6, _⟩ => ⟨S3584x416, .fp8e4m3⟩
  | .local _ .vmem, ⟨7, _⟩ => ⟨S384x6400, .fp8e4m3⟩
  | .local _ .vmem, ⟨8, _⟩ => ⟨S3840x3584, .fp8e4m3⟩
  | .local _ .vmem, ⟨9, _⟩ => ⟨S256x32, .f32⟩
  | .local _ .vmem, ⟨10, _⟩ => ⟨S256x32, .f32⟩
  | .local _ .vmem, ⟨11, _⟩ => ⟨S256x3584, .bf16⟩
  | .local _ .vmem, ⟨12, _⟩ => ⟨S256x3584, .fp8e4m3⟩
  | .local _ .vmem, ⟨13, _⟩ => ⟨S256x28, .f32⟩
  | .local _ .vmem, ⟨14, _⟩ => ⟨S256x1024, .fp8e4m3⟩
  | .local _ .vmem, ⟨15, _⟩ => ⟨S256x8, .f32⟩
  | .local _ .vmem, ⟨16, _⟩ => ⟨S256x384, .fp8e4m3⟩
  | .local _ .vmem, ⟨17, _⟩ => ⟨S256x3, .f32⟩
  | .local _ .vmem, ⟨18, _⟩ => ⟨S256x3840, .fp8e4m3⟩
  | .local _ .vmem, ⟨19, _⟩ => ⟨S256x30, .f32⟩
  | .local _ .vmem, ⟨20, _⟩ => ⟨S256x3584, .bf16⟩
  | .local _ .vmem, ⟨21, _⟩ => ⟨S256x1024, .f32⟩
  | .local _ .vmem, ⟨22, _⟩ => ⟨S256x1024, .bf16⟩
  | .local _ .vmem, ⟨23, _⟩ => ⟨S256x416, .f32⟩
  | .local _ .vmem, ⟨24, _⟩ => ⟨S256x384, .bf16⟩
  | .local _ .vmem, ⟨25, _⟩ => ⟨S256x3840, .f32⟩
  | .local _ .vmem, ⟨26, _⟩ => ⟨S256x6400, .bf16⟩
  | .local _ .vmem, ⟨27, _⟩ => ⟨S256x3840, .f32⟩
  | .local _ .vmem, ⟨28, _⟩ => ⟨S256x3840, .bf16⟩
  | .local _ .smem, ⟨0, _⟩ => ⟨S28x8, .f32⟩
  | .local _ .smem, ⟨1, _⟩ => ⟨S8x30, .f32⟩
  | .local _ .smem, ⟨2, _⟩ => ⟨S28x4, .f32⟩
  | .local _ .smem, ⟨3, _⟩ => ⟨S3x50, .f32⟩
  | .local _ .smem, ⟨4, _⟩ => ⟨S30x28, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg14_0 : Ref sig .tc := ⟨.vmem, 9, rfl⟩
abbrev cc0_stg15_0 : Ref sig .tc := ⟨.vmem, 10, rfl⟩
abbrev cc0_stg16_0 : Ref sig .tc := ⟨.vmem, 11, rfl⟩
abbrev cc0_stg17_0 : Ref sig .tc := ⟨.vmem, 12, rfl⟩
abbrev cc0_stg18_0 : Ref sig .tc := ⟨.vmem, 13, rfl⟩
abbrev cc0_stg19_0 : Ref sig .tc := ⟨.vmem, 14, rfl⟩
abbrev cc0_stg20_0 : Ref sig .tc := ⟨.vmem, 15, rfl⟩
abbrev cc0_stg21_0 : Ref sig .tc := ⟨.vmem, 16, rfl⟩
abbrev cc0_stg22_0 : Ref sig .tc := ⟨.vmem, 17, rfl⟩
abbrev cc0_stg23_0 : Ref sig .tc := ⟨.vmem, 18, rfl⟩
abbrev cc0_stg24_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .smem S28x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S28x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S30x28 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3584x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x3840 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3584x416 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S384x6400 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3840x3584 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x3584 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x3584 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x28 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1024 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x384 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x3840 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x30 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== KernelIdeal.lean ====
variable {F : FTy → Type} [FloatOps F] [Named F]
def κ : String → Option EReal := fun
  | "inv_d_model" => some ((1 / 3584 : ℝ) : EReal)
  | "inv_kv_lora" => some ((1 / 384 : ℝ) : EReal)
  | _ => none
-- ==== ReferenceIdeal.lean ====
abbrev S2x128x3584 : Shape := ⟨3, ![2, 128, 3584]⟩
abbrev S3584 : Shape := ⟨1, ![3584]⟩
abbrev S1024 : Shape := ⟨1, ![1024]⟩
abbrev S384 : Shape := ⟨1, ![384]⟩
abbrev S3584x1024 : Shape := ⟨2, ![3584, 1024]⟩
abbrev S28x8 : Shape := ⟨2, ![28, 8]⟩
abbrev S1024x3840 : Shape := ⟨2, ![1024, 3840]⟩
abbrev S8x30 : Shape := ⟨2, ![8, 30]⟩
abbrev S3584x416 : Shape := ⟨2, ![3584, 416]⟩
abbrev S28x4 : Shape := ⟨2, ![28, 4]⟩
abbrev S384x6400 : Shape := ⟨2, ![384, 6400]⟩
abbrev S3x50 : Shape := ⟨2, ![3, 50]⟩
abbrev S3840x3584 : Shape := ⟨2, ![3840, 3584]⟩
abbrev S30x28 : Shape := ⟨2, ![30, 28]⟩
abbrev S128x16 : Shape := ⟨2, ![128, 16]⟩
abbrev S256x3584 : Shape := ⟨2, ![256, 3584]⟩
abbrev S1x3584 : Shape := ⟨2, ![1, 3584]⟩
abbrev S1x1024 : Shape := ⟨2, ![1, 1024]⟩
abbrev S1x384 : Shape := ⟨2, ![1, 384]⟩
abbrev S256x28 : Shape := ⟨2, ![256, 28]⟩
abbrev S256x1024 : Shape := ⟨2, ![256, 1024]⟩
abbrev S256x8 : Shape := ⟨2, ![256, 8]⟩
abbrev S256x384 : Shape := ⟨2, ![256, 384]⟩
abbrev S256x3 : Shape := ⟨2, ![256, 3]⟩
abbrev S256x3840 : Shape := ⟨2, ![256, 3840]⟩
abbrev S256x30 : Shape := ⟨2, ![256, 30]⟩
abbrev S256 : Shape := ⟨1, ![256]⟩
abbrev S256x1 : Shape := ⟨2, ![256, 1]⟩
abbrev S256x28x128 : Shape := ⟨3, ![256, 28, 128]⟩
abbrev S256x28x252 : Shape := ⟨3, ![256, 28, 252]⟩
abbrev S256x28x1 : Shape := ⟨3, ![256, 28, 1]⟩
abbrev S28x8x1 : Shape := ⟨3, ![28, 8, 1]⟩
abbrev S28x8x128 : Shape := ⟨3, ![28, 8, 128]⟩
abbrev S28x1024 : Shape := ⟨2, ![28, 1024]⟩
abbrev S28x128x1024 : Shape := ⟨3, ![28, 128, 1024]⟩
abbrev S28x1x1024 : Shape := ⟨3, ![28, 1, 1024]⟩
abbrev S256x8x128 : Shape := ⟨3, ![256, 8, 128]⟩
abbrev S256x8x252 : Shape := ⟨3, ![256, 8, 252]⟩
abbrev S256x8x1 : Shape := ⟨3, ![256, 8, 1]⟩
abbrev S8x30x1 : Shape := ⟨3, ![8, 30, 1]⟩
abbrev S8x30x128 : Shape := ⟨3, ![8, 30, 128]⟩
abbrev S8x3840 : Shape := ⟨2, ![8, 3840]⟩
abbrev S8x128x3840 : Shape := ⟨3, ![8, 128, 3840]⟩
abbrev S8x1x3840 : Shape := ⟨3, ![8, 1, 3840]⟩
abbrev S2x128x40x96 : Shape := ⟨4, ![2, 128, 40, 96]⟩
abbrev S2x128x40x64 : Shape := ⟨4, ![2, 128, 40, 64]⟩
abbrev S2x128x40x32 : Shape := ⟨4, ![2, 128, 40, 32]⟩
abbrev S28x4x1 : Shape := ⟨3, ![28, 4, 1]⟩
abbrev S28x4x128 : Shape := ⟨3, ![28, 4, 128]⟩
abbrev S28x512 : Shape := ⟨2, ![28, 512]⟩
abbrev S28x416 : Shape := ⟨2, ![28, 416]⟩
abbrev S28x128x416 : Shape := ⟨3, ![28, 128, 416]⟩
abbrev S28x1x416 : Shape := ⟨3, ![28, 1, 416]⟩
abbrev S256x416 : Shape := ⟨2, ![256, 416]⟩
abbrev S256x3x128 : Shape := ⟨3, ![256, 3, 128]⟩
abbrev S256x3x252 : Shape := ⟨3, ![256, 3, 252]⟩
abbrev S256x3x1 : Shape := ⟨3, ![256, 3, 1]⟩
abbrev S256x32 : Shape := ⟨2, ![256, 32]⟩
abbrev S2x128x32 : Shape := ⟨3, ![2, 128, 32]⟩
abbrev S3x50x1 : Shape := ⟨3, ![3, 50, 1]⟩
abbrev S3x50x128 : Shape := ⟨3, ![3, 50, 128]⟩
abbrev S3x6400 : Shape := ⟨2, ![3, 6400]⟩
abbrev S3x128x6400 : Shape := ⟨3, ![3, 128, 6400]⟩
abbrev S3x1x6400 : Shape := ⟨3, ![3, 1, 6400]⟩
abbrev S256x6400 : Shape := ⟨2, ![256, 6400]⟩
abbrev S2x128x40x160 : Shape := ⟨4, ![2, 128, 40, 160]⟩
abbrev S128x1x16 : Shape := ⟨3, ![128, 1, 16]⟩
abbrev S2x128x40x16x2 : Shape := ⟨5, ![2, 128, 40, 16, 2]⟩
abbrev S2x128x40x16x1 : Shape := ⟨5, ![2, 128, 40, 16, 1]⟩
abbrev S2x128x40x16 : Shape := ⟨4, ![2, 128, 40, 16]⟩
abbrev S1x128x1x16 : Shape := ⟨4, ![1, 128, 1, 16]⟩
abbrev S2x128x16x2 : Shape := ⟨4, ![2, 128, 16, 2]⟩
abbrev S2x128x16x1 : Shape := ⟨4, ![2, 128, 16, 1]⟩
abbrev S2x128x16 : Shape := ⟨3, ![2, 128, 16]⟩
abbrev S1x128x16 : Shape := ⟨3, ![1, 128, 16]⟩
abbrev S2x1x128x32 : Shape := ⟨4, ![2, 1, 128, 32]⟩
abbrev S2x40x128x32 : Shape := ⟨4, ![2, 40, 128, 32]⟩
abbrev S80x128x32 : Shape := ⟨3, ![80, 128, 32]⟩
abbrev S2x40x128x64 : Shape := ⟨4, ![2, 40, 128, 64]⟩
abbrev S80x128x64 : Shape := ⟨3, ![80, 128, 64]⟩
abbrev S80x128x128 : Shape := ⟨3, ![80, 128, 128]⟩
abbrev S128x128 : Shape := ⟨2, ![128, 128]⟩
abbrev S1x128x128 : Shape := ⟨3, ![1, 128, 128]⟩
abbrev S80x128 : Shape := ⟨2, ![80, 128]⟩
abbrev S80x128x1 : Shape := ⟨3, ![80, 128, 1]⟩
abbrev S2x40x128x96 : Shape := ⟨4, ![2, 40, 128, 96]⟩
abbrev S80x128x96 : Shape := ⟨3, ![80, 128, 96]⟩
abbrev S256x30x128 : Shape := ⟨3, ![256, 30, 128]⟩
abbrev S256x30x252 : Shape := ⟨3, ![256, 30, 252]⟩
abbrev S256x30x1 : Shape := ⟨3, ![256, 30, 1]⟩
abbrev S30x28x1 : Shape := ⟨3, ![30, 28, 1]⟩
abbrev S30x28x128 : Shape := ⟨3, ![30, 28, 128]⟩
abbrev S30x3584 : Shape := ⟨2, ![30, 3584]⟩
abbrev S30x128x3584 : Shape := ⟨3, ![30, 128, 3584]⟩
abbrev S30x1x3584 : Shape := ⟨3, ![30, 1, 3584]⟩

abbrev nBuf : Space → Nat
  | .hbm => 29
  | .vmem => 25
  | .smem => 0
  | _ => 0

abbrev bufTy : (tb : Table) → Fin (tcTables nBuf tb) → BufTy
  | .hbm, ⟨0, _⟩ => ⟨S2x128x3584, .bf16⟩
  | .hbm, ⟨1, _⟩ => ⟨S3584, .f32⟩
  | .hbm, ⟨2, _⟩ => ⟨S1024, .f32⟩
  | .hbm, ⟨3, _⟩ => ⟨S384, .f32⟩
  | .hbm, ⟨4, _⟩ => ⟨S3584x1024, .fp8e4m3⟩
  | .hbm, ⟨5, _⟩ => ⟨S28x8, .f32⟩
  | .hbm, ⟨6, _⟩ => ⟨S1024x3840, .fp8e4m3⟩
  | .hbm, ⟨7, _⟩ => ⟨S8x30, .f32⟩
  | .hbm, ⟨8, _⟩ => ⟨S3584x416, .fp8e4m3⟩
  | .hbm, ⟨9, _⟩ => ⟨S28x4, .f32⟩
  | .hbm, ⟨10, _⟩ => ⟨S384x6400, .fp8e4m3⟩
  | .hbm, ⟨11, _⟩ => ⟨S3x50, .f32⟩
  | .hbm, ⟨12, _⟩ => ⟨S3840x3584, .fp8e4m3⟩
  | .hbm, ⟨13, _⟩ => ⟨S30x28, .f32⟩
  | .hbm, ⟨14, _⟩ => ⟨S128x16, .f32⟩
  | .hbm, ⟨15, _⟩ => ⟨S128x16, .f32⟩
  | .hbm, ⟨16, _⟩ => ⟨S256x3584, .bf16⟩
  | .hbm, ⟨17, _⟩ => ⟨S1x3584, .f32⟩
  | .hbm, ⟨18, _⟩ => ⟨S1x1024, .f32⟩
  | .hbm, ⟨19, _⟩ => ⟨S1x384, .f32⟩
  | .hbm, ⟨20, _⟩ => ⟨S256x3584, .bf16⟩
  | .hbm, ⟨21, _⟩ => ⟨S256x3584, .fp8e4m3⟩
  | .hbm, ⟨22, _⟩ => ⟨S256x28, .f32⟩
  | .hbm, ⟨23, _⟩ => ⟨S256x1024, .fp8e4m3⟩
  | .hbm, ⟨24, _⟩ => ⟨S256x8, .f32⟩
  | .hbm, ⟨25, _⟩ => ⟨S256x384, .fp8e4m3⟩
  | .hbm, ⟨26, _⟩ => ⟨S256x3, .f32⟩
  | .hbm, ⟨27, _⟩ => ⟨S256x3840, .fp8e4m3⟩
  | .hbm, ⟨28, _⟩ => ⟨S256x30, .f32⟩
  | .local _ .vmem, ⟨0, _⟩ => ⟨S256x3584, .bf16⟩
  | .local _ .vmem, ⟨1, _⟩ => ⟨S1x3584, .f32⟩
  | .local _ .vmem, ⟨2, _⟩ => ⟨S1x1024, .f32⟩
  | .local _ .vmem, ⟨3, _⟩ => ⟨S1x384, .f32⟩
  | .local _ .vmem, ⟨4, _⟩ => ⟨S3584x1024, .fp8e4m3⟩
  | .local _ .vmem, ⟨5, _⟩ => ⟨S28x8, .f32⟩
  | .local _ .vmem, ⟨6, _⟩ => ⟨S1024x3840, .fp8e4m3⟩
  | .local _ .vmem, ⟨7, _⟩ => ⟨S8x30, .f32⟩
  | .local _ .vmem, ⟨8, _⟩ => ⟨S3584x416, .fp8e4m3⟩
  | .local _ .vmem, ⟨9, _⟩ => ⟨S28x4, .f32⟩
  | .local _ .vmem, ⟨10, _⟩ => ⟨S384x6400, .fp8e4m3⟩
  | .local _ .vmem, ⟨11, _⟩ => ⟨S3x50, .f32⟩
  | .local _ .vmem, ⟨12, _⟩ => ⟨S3840x3584, .fp8e4m3⟩
  | .local _ .vmem, ⟨13, _⟩ => ⟨S30x28, .f32⟩
  | .local _ .vmem, ⟨14, _⟩ => ⟨S128x16, .f32⟩
  | .local _ .vmem, ⟨15, _⟩ => ⟨S128x16, .f32⟩
  | .local _ .vmem, ⟨16, _⟩ => ⟨S256x3584, .bf16⟩
  | .local _ .vmem, ⟨17, _⟩ => ⟨S256x3584, .fp8e4m3⟩
  | .local _ .vmem, ⟨18, _⟩ => ⟨S256x28, .f32⟩
  | .local _ .vmem, ⟨19, _⟩ => ⟨S256x1024, .fp8e4m3⟩
  | .local _ .vmem, ⟨20, _⟩ => ⟨S256x8, .f32⟩
  | .local _ .vmem, ⟨21, _⟩ => ⟨S256x384, .fp8e4m3⟩
  | .local _ .vmem, ⟨22, _⟩ => ⟨S256x3, .f32⟩
  | .local _ .vmem, ⟨23, _⟩ => ⟨S256x3840, .fp8e4m3⟩
  | .local _ .vmem, ⟨24, _⟩ => ⟨S256x30, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x3840 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x416 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S28x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S384x6400 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3840x3584 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S30x28 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x3584 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x3584 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x28 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1024 .fp8e4m3 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x384 .fp8e4m3 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x3840 .fp8e4m3 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x30 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== Proof.Tiles.lean ====
/-
  A buffer written tile by tile, and read block by block: the stores of an array's tiles, last tile first, as one list, what
  that list leaves at an index, and what a read of a block of it holds.
-/
module

public import Idealize.ShloMosaic.Lib.Pointwise
public import Idealize.ShloMosaic.Lib.Pipeline.Value
public import Idealize.ShloMosaic.Lib.Pipeline.ReadBack
public import Idealize.ShloMosaic.Lib.WholeRead

@[expose] public section

noncomputable section

namespace Cert.Mla

open Idealize.ShloMosaic Idealize.ShloMosaic.View

variable {Val : EltTy → Type} {e : EltTy} {M N : ℕ}

theorem inb2 {r c H W : ℕ} (hr : r + H ≤ M) (hc : c + W ≤ N) :
    ∀ a : Fin 2, (![r, c] : Fin 2 → ℕ) a + (![H, W] : Fin 2 → ℕ) a ≤ (![M, N] : Fin 2 → ℕ) a := by
  intro a
  match a with
  | ⟨0, _⟩ => exact hr
  | ⟨1, _⟩ => exact hc

/-- The rectangle of `H × W` elements at row `r` and column `c`. -/
@[reducible] def box {r c H W : ℕ} (hr : r + H ≤ M) (hc : c + W ≤ N) : Rect (⟨2, ![M, N]⟩ : Shape) :=
  Rect.unit ![r, c] ![H, W] (inb2 hr hc)

/-- A reader of the rectangles of an `M × N` array. -/
abbrev Rdr (M N : ℕ) (α : Type) : Type := (B : LoadRect (⟨2, ![M, N]⟩ : Shape)) → B.shape.Idx → α

/-- The reader `g` reads the array `f`. -/
def Reads {α : Type} (g : Rdr M N α) (f : (⟨2, ![M, N]⟩ : Shape).Idx → α) : Prop :=
  ∀ (B : LoadRect (⟨2, ![M, N]⟩ : Shape)) (x : B.shape.Idx), g B x = f (B.idx x)

/-- What a reader of rectangles reads at the box. -/
def blk {α : Type} (g : Rdr M N α) {r c H W : ℕ} (hr : r + H ≤ M) (hc : c + W ≤ N) :
    (⟨2, ![H, W]⟩ : Shape).Idx → α :=
  g (box hr hc).toLoadRect

theorem box_idx {r c H W : ℕ} (hr : r + H ≤ M) (hc : c + W ≤ N) (i : Fin H) (l : Fin W) :
    (box hr hc).toLoadRect.idx (ix2 i l) = ix2 ⟨r + i.val, by omega⟩ ⟨c + l.val, by omega⟩ := by
  funext a
  apply Fin.ext
  match a with
  | ⟨0, _⟩ => show r + 1 * i.val = r + i.val; omega
  | ⟨1, _⟩ => show c + 1 * l.val = c + l.val; omega

theorem blk_ix2 {α : Type} {g : Rdr M N α} {f : (⟨2, ![M, N]⟩ : Shape).Idx → α} (h : Reads g f) {r c H W : ℕ} (hr : r + H ≤ M)
    (hc : c + W ≤ N) (i : Fin H) (l : Fin W) :
    blk g hr hc (ix2 i l) = f (ix2 ⟨r + i.val, by omega⟩ ⟨c + l.val, by omega⟩) := by
  unfold blk
  rw [h, box_idx]

theorem reads_readCov [∀ e, Nonempty (Val e)] {sig : RefSig} {κ : Kind} {sp : Space} (v : View sig κ sp (⟨2, ![M, N]⟩ : Shape) e)
    (L : List (Piece Val (⟨2, ![M, N]⟩ : Shape) e)) : Reads (fun B => v.readCov L B) (canon L) := by
  intro B x
  show v.readCov L B x = _
  rw [readCov_eq_canon']

theorem reads_readAt {sig : RefSig} {κ : Kind} {sp : Space} {m : Memref sig κ sp (⟨2, ![M, N]⟩ : Shape) e} (h : m.IsWhole)
    (X : (⟨2, ![M, N]⟩ : Shape).Idx → Val e) : Reads (fun B => View.readAt Val m.view B (h.unread X)) X := by
  intro B x
  show View.readAt Val m.view B (h.unread X) x = _
  rw [Memref.IsWhole.readAt_unread]

/-- A reader of the first `N'` columns, out of a reader of all. -/
def colsRdr {α : Type} (N' : ℕ) (hN : 0 + N' ≤ N) (g : Rdr M N α) : Rdr M N' α :=
  fun B => g ((box (M := M) (N := N) (r := 0) (c := 0) (H := M) (W := N') (Nat.le_of_eq (Nat.zero_add M)) hN).withinL B (fun _ => rfl))

theorem reads_cols {α : Type} {N' : ℕ} (hN : 0 + N' ≤ N) {g : Rdr M N α} {f : (⟨2, ![M, N]⟩ : Shape).Idx → α} (h : Reads g f) :
    Reads (colsRdr N' hN g) (fun y => f (ix2 (y 0) ⟨(y 1).val, by have : (y 1).val < N' := (y 1).isLt; omega⟩)) := by
  intro B x
  refine (h ((box (M := M) (N := N) (r := 0) (c := 0) (H := M) (W := N') (Nat.le_of_eq (Nat.zero_add M)) hN).withinL B
    (fun _ => rfl)) x).trans ?_
  congr 1
  funext a
  apply Fin.ext
  match a with
  | ⟨0, _⟩ => show (0 + B.off 0) + B.stride 0 * (x 0).val = B.off 0 + B.stride 0 * (x 0).val; omega
  | ⟨1, _⟩ => show (0 + B.off 1) + B.stride 1 * (x 1).val = B.off 1 + B.stride 1 * (x 1).val; omega

theorem canon_ofFn [∀ e, Nonempty (Val e)] {s : Shape} {n : ℕ} (R : Fin n → Rect s) (pay : ∀ k, (R k).shape.Idx → Val e)
    (G : s.Idx → Val e) (h : ∀ k x, pay k x = G ((R k).emb x)) (y : s.Idx) (hy : ∃ k, y ∈ (R k).set) :
    canon (List.ofFn fun k => (⟨R k, pay k⟩ : Piece Val s e)) y = G y := by
  refine canon_apply_of_pieces G _ (fun p hp => ?_) y ?_
  · obtain ⟨k, rfl⟩ := List.mem_ofFn.mp hp
    exact h k
  · obtain ⟨k, hk⟩ := hy
    exact ⟨_, List.mem_ofFn.mpr ⟨k, rfl⟩, hk⟩

theorem tile_lo {H m n : ℕ} (hM : H * m = M) (k : Fin (m * n)) : H * ((m * n - 1 - k.val) % m) + H ≤ M := by
  have hk := k.isLt
  have hm : 0 < m := Nat.pos_of_ne_zero fun h => by subst h; simp at hk
  have := Nat.mod_lt (m * n - 1 - k.val) hm
  calc H * ((m * n - 1 - k.val) % m) + H = H * ((m * n - 1 - k.val) % m + 1) := by ring
    _ ≤ H * m := Nat.mul_le_mul_left _ this
    _ = M := hM

theorem tile_hi {W m n : ℕ} (hN : W * n = N) (k : Fin (m * n)) : W * ((m * n - 1 - k.val) / m) + W ≤ N := by
  have hk := k.isLt
  have hm : 0 < m := Nat.pos_of_ne_zero fun h => by subst h; simp at hk
  have : (m * n - 1 - k.val) / m < n := Nat.div_lt_of_lt_mul (by omega)
  calc W * ((m * n - 1 - k.val) / m) + W = W * ((m * n - 1 - k.val) / m + 1) := by ring
    _ ≤ W * n := Nat.mul_le_mul_left _ this
    _ = N := hN

theorem tile_row {m n : ℕ} (k : Fin (m * n)) : (m * n - 1 - k.val) % m < m := by
  have hk := k.isLt
  exact Nat.mod_lt _ (Nat.pos_of_ne_zero fun h => by subst h; simp at hk)

theorem tile_col {m n : ℕ} (k : Fin (m * n)) : (m * n - 1 - k.val) / m < n := by
  have hk := k.isLt
  exact Nat.div_lt_of_lt_mul (by omega)

/-- The stores of the `m × n` tiles of `H × W` elements, one tile column after the other, last store first. -/
def tiles (H W m n : ℕ) (hM : H * m = M) (hN : W * n = N) (pay : Fin m → Fin n → (⟨2, ![H, W]⟩ : Shape).Idx → Val e) :
    List (Piece Val (⟨2, ![M, N]⟩ : Shape) e) :=
  List.ofFn fun k : Fin (m * n) => ⟨box (tile_lo hM k) (tile_hi hN k), pay ⟨_, tile_row k⟩ ⟨_, tile_col k⟩⟩

theorem canon_tiles [∀ e, Nonempty (Val e)] (H W m n : ℕ) (hM : H * m = M) (hN : W * n = N)
    (pay : Fin m → Fin n → (⟨2, ![H, W]⟩ : Shape).Idx → Val e) (i : Fin M) (j : Fin N) :
    canon (tiles H W m n hM hN pay) (ix2 i j)
      = pay ⟨i.val / H, Nat.div_lt_of_lt_mul (by omega)⟩ ⟨j.val / W, Nat.div_lt_of_lt_mul (by omega)⟩
          (ix2 ⟨i.val % H, Nat.mod_lt _ (Nat.pos_of_ne_zero fun h => by subst h; have := i.isLt; simp at hM; omega)⟩
            ⟨j.val % W, Nat.mod_lt _ (Nat.pos_of_ne_zero fun h => by subst h; have := j.isLt; simp at hN; omega)⟩) := by
  have hH : 0 < H := Nat.pos_of_ne_zero fun h => by subst h; have := i.isLt; simp at hM; omega
  have hW : 0 < W := Nat.pos_of_ne_zero fun h => by subst h; have := j.isLt; simp at hN; omega
  have key : ∀ (p p' : Fin m) (q q' : Fin n) (a a' : Fin H) (l l' : Fin W), p.val = p'.val → q.val = q'.val → a.val = a'.val →
      l.val = l'.val → pay p q (ix2 a l) = pay p' q' (ix2 a' l') := by
    intro p p' q q' a a' l l' h1 h2 h3 h4
    rw [Fin.ext h1, Fin.ext h2, Fin.ext h3, Fin.ext h4]
  refine canon_ofFn _ _ (fun y : (⟨2, ![M, N]⟩ : Shape).Idx =>
    pay ⟨(y 0).val / H, Nat.div_lt_of_lt_mul (by have := (y 0).isLt; exact Nat.lt_of_lt_of_eq this hM.symm)⟩
      ⟨(y 1).val / W, Nat.div_lt_of_lt_mul (by have := (y 1).isLt; exact Nat.lt_of_lt_of_eq this hN.symm)⟩
      (ix2 ⟨(y 0).val % H, Nat.mod_lt _ hH⟩ ⟨(y 1).val % W, Nat.mod_lt _ hW⟩)) (fun k x => ?_) (ix2 i j) ?_
  · obtain ⟨a, l, rfl⟩ : ∃ (a : Fin H) (l : Fin W), x = ix2 a l := ⟨x 0, x 1, by
      funext b; match b with
      | ⟨0, _⟩ => rfl
      | ⟨1, _⟩ => rfl⟩
    have r0 : ((box (tile_lo hM k) (tile_hi hN k)).emb (ix2 a l) 0).val = H * ((m * n - 1 - k.val) % m) + a.val := by
      show H * ((m * n - 1 - k.val) % m) + 1 * a.val = _
      rw [Nat.one_mul]
    have r1 : ((box (tile_lo hM k) (tile_hi hN k)).emb (ix2 a l) 1).val = W * ((m * n - 1 - k.val) / m) + l.val := by
      show W * ((m * n - 1 - k.val) / m) + 1 * l.val = _
      rw [Nat.one_mul]
    have e1 : (H * ((m * n - 1 - k.val) % m) + a.val) / H = (m * n - 1 - k.val) % m := by
      rw [Nat.mul_add_div hH, Nat.div_eq_of_lt a.isLt, Nat.add_zero]
    have e2 : (W * ((m * n - 1 - k.val) / m) + l.val) / W = (m * n - 1 - k.val) / m := by
      rw [Nat.mul_add_div hW, Nat.div_eq_of_lt l.isLt, Nat.add_zero]
    have e3 : (H * ((m * n - 1 - k.val) % m) + a.val) % H = a.val := by
      rw [Nat.mul_add_mod, Nat.mod_eq_of_lt a.isLt]
    have e4 : (W * ((m * n - 1 - k.val) / m) + l.val) % W = l.val := by
      rw [Nat.mul_add_mod, Nat.mod_eq_of_lt l.isLt]
    exact key _ _ _ _ _ _ _ _ (by simp only [r0, e1]) (by simp only [r1, e2]) (by simp only [r0, e3]) (by simp only [r1, e4])
  · have hi : i.val / H < m := Nat.div_lt_of_lt_mul (by omega)
    have hj : j.val / W < n := Nat.div_lt_of_lt_mul (by omega)
    obtain ⟨p, hp⟩ : ∃ p, p = i.val / H := ⟨_, rfl⟩
    obtain ⟨q, hq⟩ : ∃ q, q = j.val / W := ⟨_, rfl⟩
    rw [← hp] at hi
    rw [← hq] at hj
    have hm : 0 < m := Nat.lt_of_le_of_lt (Nat.zero_le _) hi
    have hlt : m * q + p < m * n := by
      calc m * q + p < m * q + m := by omega
        _ = m * (q + 1) := by ring
        _ ≤ m * n := Nat.mul_le_mul_left _ hj
    refine ⟨⟨m * n - 1 - (m * q + p), by omega⟩, ?_⟩
    have e0 : m * n - 1 - (m * n - 1 - (m * q + p)) = m * q + p := by omega
    have e1 : (m * q + p) % m = p := by rw [Nat.mul_add_mod, Nat.mod_eq_of_lt hi]
    have e2 : (m * q + p) / m = q := by
      rw [Nat.mul_add_div hm, Nat.div_eq_of_lt hi, Nat.add_zero]
    rw [Rect.mem_set_unit]
    intro a
    have d1 := Nat.div_add_mod i.val H
    have d2 := Nat.div_add_mod j.val W
    have l1 := Nat.mod_lt i.val hH
    have l2 := Nat.mod_lt j.val hW
    match a with
    | ⟨0, _⟩ =>
      show H * ((m * n - 1 - (m * n - 1 - (m * q + p))) % m) ≤ i.val ∧ i.val < H * ((m * n - 1 - (m * n - 1 - (m * q + p))) % m) + H
      rw [e0, e1, hp]; omega
    | ⟨1, _⟩ =>
      show W * ((m * n - 1 - (m * n - 1 - (m * q + p))) / m) ≤ j.val ∧ j.val < W * ((m * n - 1 - (m * n - 1 - (m * q + p))) / m) + W
      rw [e0, e2, hq]; omega

/-- The same for tiles as high as the array. -/
theorem canon_cols [∀ e, Nonempty (Val e)] (W n : ℕ) (hM : M * 1 = M) (hN : W * n = N)
    (pay : Fin 1 → Fin n → (⟨2, ![M, W]⟩ : Shape).Idx → Val e) (i : Fin M) (j : Fin N) :
    canon (tiles M W 1 n hM hN pay) (ix2 i j)
      = pay 0 ⟨j.val / W, Nat.div_lt_of_lt_mul (by omega)⟩
          (ix2 i ⟨j.val % W, Nat.mod_lt _ (Nat.pos_of_ne_zero fun h => by subst h; have := j.isLt; simp at hN; omega)⟩) := by
  have key : ∀ (p p' : Fin 1) (q : Fin n) (a a' : Fin M) (l : Fin W), a.val = a'.val → pay p q (ix2 a l) = pay p' q (ix2 a' l) := by
    intro p p' q a a' l h3
    rw [Fin.ext h3, Subsingleton.elim p p']
  rw [canon_tiles]
  exact key _ _ _ _ _ _ (Nat.mod_eq_of_lt i.isLt)

end Cert.Mla

end
-- ==== Proof.KBlocks.lean ====
/-
  The kernel's repeated blocks, each written once: the block of a normalised row, its quantiser, a slab of weights times
  their scales, one head of attention.
-/
module

public import proofs.«01_k».proof.Proof.Gen.KernelIdeal.Skeleton
public import proofs.«01_k».proof.Proof.Tiles

@[expose] public section

noncomputable section

namespace Cert.KernelIdeal.Gen

open Cert.Mla Idealize.ShloMosaic Idealize.ShloMosaic.TcCoe

variable {F : FTy → Type} [FloatOps F] [Named F]

/-- One 128-wide block of rows `v`, times the row factor `r` and the gains `g`. -/
def qNorm (r : FVec F S256x1 .f32) (v : FVec F S256x128 .f32) (g : Vec F S1x128 .f32) : FVec F S256x128 .f32 :=
  mulf (mulf v (broadcastTo S256x128 r broadcasts_S256x1_S256x128))
    (broadcastTo S256x128 (shapeCast S1x128 g shapeCasts_S1x128_S1x128) broadcasts_S1x128_S256x128)

/-- The greatest magnitude of each row over 448. -/
def qW (v : FVec F S256x128 .f32) : FVec F S256x1 .f32 :=
  mulf (shapeCast S256x1 (multiReduction .maximumf [1] S256 (absf v) 0xFF800000#32 reduces_S256x128_S256 (.inl rfl) rfl)
    shapeCasts_S256_S256x1) (broadcast S256x1 (Scalar.ofBits .f32 0x3B124925#32))

/-- The exponent field of each row's scale. -/
def qT (v : FVec F S256x128 .f32) : IVec S256x1 32 := k0_pay11 (qW v) (iota .tc S1x256 32 [1] iota_S1x256_d1_w32) 1#32

/-- Each row's scale. -/
def qS (v : FVec F S256x128 .f32) : FVec F S256x1 .f32 := k0_pay13 (qW v) (iota .tc S1x256 32 [1] iota_S1x256_d1_w32) 1#32

/-- The codes. -/
def qC (v : FVec F S256x128 .f32) : FVec F S256x128 .fp8e4m3 := k0_pay14 v (qW v) (iota .tc S1x256 32 [1] iota_S1x256_d1_w32) 1#32

/-- The codes times their scale. -/
def qA (v : FVec F S256x128 .f32) : FVec F S256x128 .bf16 := k0_pay15 v (qW v) (iota .tc S1x256 32 [1] iota_S1x256_d1_w32) 1#32

/-- A block of weights times its scale. -/
def wBlk (w : Vec F S128x128 .fp8e4m3) (s : F .f32) : FVec F S128x128 .bf16 :=
  mulf (extf .bf16 w bitsLt_fp8e4m3_bf16)
    (broadcastTo S128x128 (truncf .bf16 (broadcast S1x128 s) bitsLt_bf16_f32) broadcasts_S1x128_S128x128)

/-- The same for a block 32 wide. -/
def wBlk32 (w : Vec F S128x32 .fp8e4m3) (s : F .f32) : FVec F S128x32 .bf16 :=
  mulf (extf .bf16 w bitsLt_fp8e4m3_bf16)
    (broadcastTo S128x32 (truncf .bf16 (broadcast S1x32 s) bitsLt_bf16_f32) broadcasts_S1x32_S128x32)

/-- The block `b` of the normalised input. -/
def xV (X : Rdr 256 3584 (Elt F .bf16)) (G : Rdr 1 3584 (Elt F .f32)) (b : Fin 28) : FVec F S256x128 .f32 :=
  qNorm (k0_pay1 (blk X (r := 0) (c := 0) (H := 256) (W := 3584) (by omega) (by omega)))
    (extf .f32 (shapeCast S256x128 (blk X (r := 0) (c := 128 * b.val) (H := 256) (W := 128) (by omega) (by omega) : Vec F S256x128 .bf16)
      shapeCasts_S256x128_S256x128) bitsLt_bf16_f32)
    (blk G (r := 0) (c := 128 * b.val) (H := 1) (W := 128) (by omega) (by omega))

/-- The row factor of 1024 columns. -/
def rs1024 (v : FVec F S256x1024 .f32) : FVec F S256x1 .f32 :=
  rsqrt (addf (mulf (shapeCast S256x1 (multiReduction .add [1] S256 (mulf v v) 0x00000000#32 reduces_S256x1024_S256 (.inl rfl) rfl)
    shapeCasts_S256_S256x1) (broadcast S256x1 (Scalar.ofBits .f32 0x3A800000#32))) (broadcast S256x1 (Scalar.ofBits .f32 0x358637BD#32)))

/-- The row factor of 384 columns. -/
def rs384 (v : FVec F S256x384 .f32) : FVec F S256x1 .f32 :=
  rsqrt (addf (mulf (shapeCast S256x1 (multiReduction .add [1] S256 (mulf v v) 0x00000000#32 reduces_S256x384_S256 (.inl rfl) rfl)
    shapeCasts_S256_S256x1) (broadcast S256x1 (Named.named κ "inv_kv_lora" 0x3B2AAAAB#32))) (broadcast S256x1 (Scalar.ofBits .f32 0x358637BD#32)))

/-- The block `b` of the normalised first factor of the queries. -/
def cqV (C : Rdr 256 1024 (Elt F .f32)) (G : Rdr 1 1024 (Elt F .f32)) (b : Fin 8) : FVec F S256x128 .f32 :=
  qNorm (rs1024 (blk C (r := 0) (c := 0) (H := 256) (W := 1024) (by omega) (by omega)))
    (blk C (r := 0) (c := 128 * b.val) (H := 256) (W := 128) (by omega) (by omega))
    (blk G (r := 0) (c := 128 * b.val) (H := 1) (W := 128) (by omega) (by omega))

/-- The block `b` of the normalised first factor of the keys and values. -/
def kvV (C : Rdr 256 416 (Elt F .f32)) (G : Rdr 1 384 (Elt F .f32)) (b : Fin 3) : FVec F S256x128 .f32 :=
  qNorm (rs384 (blk C (r := 0) (c := 0) (H := 256) (W := 384) (by omega) (by omega)))
    (blk (colsRdr 384 (by omega) C) (r := 0) (c := 128 * b.val) (H := 256) (W := 128) (by omega) (by omega))
    (blk G (r := 0) (c := 128 * b.val) (H := 1) (W := 128) (by omega) (by omega))

/-- The block `b` of the attention's result. -/
def oV (C : Rdr 256 3840 (Elt F .f32)) (b : Fin 30) : FVec F S256x128 .f32 :=
  blk C (r := 0) (c := 128 * b.val) (H := 256) (W := 128) (by omega) (by omega)

theorem cat_two : Shape.Concatenates [S128x128, S128x128] S128x256 1 := concatenates_S128x128_S128x128_S128x256_d1

/-- One block row of a slab 256 wide. -/
def wRow {K N nk nb nn : ℕ} (hK : 128 * nk = K) (hN : 256 * nn ≤ N) (hb : 2 * nn ≤ nb) (W : Rdr K N (Elt F .fp8e4m3))
    (S : Rdr nk nb (Elt F .f32)) (n : Fin nn) (kb : Fin nk) : FVec F S128x256 .bf16 :=
  concatenate S128x256 1
    [⟨S128x128, wBlk (blk W (r := 128 * kb.val) (c := 256 * n.val) (H := 128) (W := 128) (by omega) (by omega))
      (blk S (r := kb.val) (c := 2 * n.val) (H := 1) (W := 1) (by omega) (by omega) (Shape.Idx.first (by decide)))⟩,
    ⟨S128x128, wBlk (blk W (r := 128 * kb.val) (c := 256 * n.val + 128) (H := 128) (W := 128) (by omega) (by omega))
      (blk S (r := kb.val) (c := 2 * n.val + 1) (H := 1) (W := 1) (by omega) (by omega) (Shape.Idx.first (by decide)))⟩] cat_two

/-- One block row of the last slab of the keys' and values' first weights, 160 wide. -/
def wRow160 (W : Rdr 3584 416 (Elt F .fp8e4m3)) (S : Rdr 28 4 (Elt F .f32)) (kb : Fin 28) : FVec F S128x160 .bf16 :=
  concatenate S128x160 1
    [⟨S128x128, wBlk (blk W (r := 128 * kb.val) (c := 256) (H := 128) (W := 128) (by omega) (by omega))
      (blk S (r := kb.val) (c := 2) (H := 1) (W := 1) (by omega) (by omega) (Shape.Idx.first (by decide)))⟩,
    ⟨S128x32, wBlk32 (blk W (r := 128 * kb.val) (c := 384) (H := 128) (W := 32) (by omega) (by omega))
      (blk S (r := kb.val) (c := 3) (H := 1) (W := 1) (by omega) (by omega) (Shape.Idx.first (by decide)))⟩]
    concatenates_S128x128_S128x32_S128x160_d1

theorem map_ofFn_fst {α : Type} (s : Shape) (n : ℕ) (f : Fin n → (s.Idx → α)) :
    (List.ofFn fun k : Fin n => (⟨s, f k⟩ : (s : Shape) × (s.Idx → α))).map (·.1) = List.replicate n s := by
  rw [List.map_ofFn]
  exact List.ofFn_const n s

/-- Equal blocks side by side, or below one another. -/
def stack {α : Type} (n : ℕ) (s t : Shape) (d : Fin t.rank) (hc : Shape.Concatenates (List.replicate n s) t d) (f : Fin n → (s.Idx → α)) :
    t.Idx → α :=
  concatenate t d (List.ofFn fun k : Fin n => (⟨s, f k⟩ : (s : Shape) × (s.Idx → α))) (by rw [map_ofFn_fst]; exact hc)

theorem cat28 : Shape.Concatenates (List.replicate 28 S128x256) S3584x256 0 := by decide +kernel
theorem cat28' : Shape.Concatenates (List.replicate 28 S128x160) S3584x160 0 := by decide +kernel
theorem cat8 : Shape.Concatenates (List.replicate 8 S128x256) S1024x256 0 := by decide +kernel
theorem cat3 : Shape.Concatenates (List.replicate 3 S128x256) S384x256 0 := by decide +kernel
theorem cat30 : Shape.Concatenates (List.replicate 30 S128x256) S3840x256 0 := by decide +kernel
theorem side28 : Shape.Concatenates (List.replicate 28 S256x1) S256x28 1 := by decide +kernel
theorem side8 : Shape.Concatenates (List.replicate 8 S256x1) S256x8 1 := by decide +kernel
theorem side3 : Shape.Concatenates (List.replicate 3 S256x1) S256x3 1 := by decide +kernel
theorem side30 : Shape.Concatenates (List.replicate 30 S256x1) S256x30 1 := by decide +kernel

/-- 256 columns of the product with the first weights of the queries. -/
def cqP (A : FVec F S256x3584 .bf16) (W : Rdr 3584 1024 (Elt F .fp8e4m3)) (S : Rdr 28 8 (Elt F .f32)) (n : Fin 4) : FVec F S256x256 .f32 :=
  shapeCast S256x256 (matmul dot_S256x3584_S3584x256_S256x256_1_0_0_1_n_n none A
    (stack 28 S128x256 S3584x256 0 cat28 (wRow (nn := 4) rfl (by omega) (by omega) W S n)) (constant S256x256 .f32 0x00000000#32))
    shapeCasts_S256x256_S256x256

/-- The first 256 columns of the product with the first weights of the keys and values. -/
def kvP (A : FVec F S256x3584 .bf16) (W : Rdr 3584 416 (Elt F .fp8e4m3)) (S : Rdr 28 4 (Elt F .f32)) : FVec F S256x256 .f32 :=
  shapeCast S256x256 (matmul dot_S256x3584_S3584x256_S256x256_1_0_0_1_n_n none A
    (stack 28 S128x256 S3584x256 0 cat28 (wRow (nn := 1) rfl (by omega) (by omega) W S 0)) (constant S256x256 .f32 0x00000000#32))
    shapeCasts_S256x256_S256x256

/-- The last 160 columns of it. -/
def kvP160 (A : FVec F S256x3584 .bf16) (W : Rdr 3584 416 (Elt F .fp8e4m3)) (S : Rdr 28 4 (Elt F .f32)) : FVec F S256x160 .f32 :=
  shapeCast S256x160 (matmul dot_S256x3584_S3584x160_S256x160_1_0_0_1_n_n none A
    (stack 28 S128x160 S3584x160 0 cat28' (wRow160 W S)) (constant S256x160 .f32 0x00000000#32))
    shapeCasts_S256x160_S256x160

/-- 256 columns of the queries. -/
def qP (A : FVec F S256x1024 .bf16) (W : Rdr 1024 3840 (Elt F .fp8e4m3)) (S : Rdr 8 30 (Elt F .f32)) (n : Fin 15) : FVec F S256x256 .f32 :=
  shapeCast S256x256 (matmul dot_S256x1024_S1024x256_S256x256_1_0_0_1_n_n none A
    (stack 8 S128x256 S1024x256 0 cat8 (wRow (nn := 15) rfl (by omega) (by omega) W S n)) (constant S256x256 .f32 0x00000000#32))
    shapeCasts_S256x256_S256x256

/-- 256 columns of the keys and values. -/
def kvbP (A : FVec F S256x384 .bf16) (W : Rdr 384 6400 (Elt F .fp8e4m3)) (S : Rdr 3 50 (Elt F .f32)) (n : Fin 25) : FVec F S256x256 .bf16 :=
  shapeCast S256x256 (truncf .bf16 (matmul dot_S256x384_S384x256_S256x256_1_0_0_1_n_n none A
    (stack 3 S128x256 S384x256 0 cat3 (wRow (nn := 25) rfl (by omega) (by omega) W S n)) (constant S256x256 .f32 0x00000000#32))
    bitsLt_bf16_f32) shapeCasts_S256x256_S256x256

/-- 256 columns of the result. -/
def yP (X : Rdr 256 3584 (Elt F .bf16)) (A : FVec F S256x3840 .bf16) (W : Rdr 3840 3584 (Elt F .fp8e4m3)) (S : Rdr 30 28 (Elt F .f32)) (n : Fin 14) :
    FVec F S256x256 .bf16 :=
  truncf .bf16 (addf (extf .f32 (shapeCast S256x256 (blk X (r := 0) (c := 256 * n.val) (H := 256) (W := 256) (by omega) (by omega) : Vec F S256x256 .bf16)
      shapeCasts_S256x256_S256x256) bitsLt_bf16_f32)
    (matmul dot_S256x3840_S3840x256_S256x256_1_0_0_1_n_n none A
      (stack 30 S128x256 S3840x256 0 cat30 (wRow (nn := 14) rfl (by omega) (by omega) W S n)) (constant S256x256 .f32 0x00000000#32)))
    bitsLt_bf16_f32

/-- The rotary turn of 32 columns. -/
def rotV (v cos sin : Vec F S256x32 .f32) : FVec F S256x32 .bf16 :=
  k0_pay855 v cos sin 2#32 (remsi (iota .tc S256x32 32 [1] iota_S256x32_d1_w32) (broadcast S256x32 2#32))

/-- The causal mask of one batch. -/
def maskV : IVec S128x128 1 := cmpi .sle (iota .tc S128x128 32 [1] iota_S128x128_d1_w32) (iota .tc S128x128 32 [0] iota_S128x128_d0_w32)

theorem sl64 (b : Fin 2) : Shape.Slices S256x64 ![128 * b.val, 0] S128x64 := by
  match b with
  | 0 => exact slices_S256x64_o0_0_S128x64
  | 1 => exact slices_S256x64_o128_0_S128x64
theorem sl32 (b : Fin 2) : Shape.Slices S256x32 ![128 * b.val, 0] S128x32 := by
  match b with
  | 0 => exact slices_S256x32_o0_0_S128x32
  | 1 => exact slices_S256x32_o128_0_S128x32
theorem sl96 (b : Fin 2) : Shape.Slices S256x96 ![128 * b.val, 0] S128x96 := by
  match b with
  | 0 => exact slices_S256x96_o0_0_S128x96
  | 1 => exact slices_S256x96_o128_0_S128x96

/-- The masked scores of one head of the batch `b`. -/
def headS (kr qr : FVec F S256x32 .bf16) (qn kn : FVec F S256x64 .bf16) (b : Fin 2) : FVec F S128x128 .f32 :=
  select maskV (mulf (addf
    (matmul dot_S128x64_S128x64_S128x128_1_1_0_0_n_n none (extractStridedSlice S128x64 ![128 * b.val, 0] qn (sl64 b))
      (extractStridedSlice S128x64 ![128 * b.val, 0] kn (sl64 b)) (constant S128x128 .f32 0x00000000#32))
    (matmul dot_S128x32_S128x32_S128x128_1_1_0_0_n_n none (extractStridedSlice S128x32 ![128 * b.val, 0] qr (sl32 b))
      (extractStridedSlice S128x32 ![128 * b.val, 0] kr (sl32 b)) (constant S128x128 .f32 0x00000000#32)))
    (broadcast S128x128 (Scalar.ofBits .f32 0x3DD105EC#32))) (broadcast S128x128 (Scalar.ofBits .f32 0xFF800000#32))

/-- The exponentials of a score's distance to the greatest of its row. -/
def headE (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- The exponentials over their sum, times the values. -/
def headP (p : FVec F S128x128 .f32) (vv : FVec F S256x96 .bf16) (b : Fin 2) : FVec F S128x96 .f32 :=
  shapeCast S128x96 (matmul dot_S128x128_S128x96_S128x96_1_0_0_1_n_n none
    (truncf .bf16 (divf p (broadcastTo S128x128 (shapeCast S128x1 (multiReduction .add [1] S128 p
      0x00000000#32 reduces_S128x128_S128 (.inl rfl) rfl) shapeCasts_S128_S128x1) broadcasts_S128x1_S128x128)) bitsLt_bf16_f32)
    (extractStridedSlice S128x96 ![128 * b.val, 0] vv (sl96 b)) (constant S128x96 .f32 0x00000000#32)) shapeCasts_S128x96_S128x96

/-- One head of one batch. -/
def headV (kr : FVec F S256x32 .bf16) (Q : Rdr 256 3840 (Elt F .f32)) (KV : Rdr 256 6400 (Elt F .bf16)) (cos sin : Vec F S256x32 .f32)
    (b : Fin 2) (h : Fin 40) : FVec F S128x96 .f32 :=
  headP (headE (headS kr
      (rotV (blk Q (r := 0) (c := 96 * h.val + 64) (H := 256) (W := 32) (by omega) (by omega)) cos sin)
      (truncf .bf16 (blk Q (r := 0) (c := 96 * h.val) (H := 256) (W := 64) (by omega) (by omega) : Vec F S256x64 .f32) bitsLt_bf16_f32)
      (blk KV (r := 0) (c := 160 * h.val) (H := 256) (W := 64) (by omega) (by omega)) b))
    (blk KV (r := 0) (c := 160 * h.val + 64) (H := 256) (W := 96) (by omega) (by omega)) b

end Cert.KernelIdeal.Gen

end
-- ==== Proof.KLists.lean ====
/-
  The kernel's stores, buffer by buffer: what each buffer receives is one list of equal tiles, each tile the same block of
  operations at its own place.
-/
module

public import proofs.«01_k».proof.Proof.Gen.KernelIdeal.Frame.RunA
public import proofs.«01_k».proof.Proof.KBlocks

@[expose] public section

noncomputable section

namespace Cert.KernelIdeal.Gen

open Cert.Mla Idealize.ShloMosaic Idealize.ShloMosaic.TcCoe

variable {F : FTy → Type} [FloatOps F] [Named F]
variable (c : Dev nD)
  (arg0 : Memref sig .tc .smem S28x8 .f32) (harg0 : arg0.IsWhole)
  (arg1 : Memref sig .tc .smem S8x30 .f32) (harg1 : arg1.IsWhole)
  (arg2 : Memref sig .tc .smem S28x4 .f32) (harg2 : arg2.IsWhole)
  (arg3 : Memref sig .tc .smem S3x50 .f32) (harg3 : arg3.IsWhole)
  (arg4 : Memref sig .tc .smem S30x28 .f32) (harg4 : arg4.IsWhole)
  (arg5 : Memref sig .tc .vmem S256x3584 .bf16) (harg5 : arg5.IsWhole)
  (arg6 : Memref sig .tc .vmem S1x3584 .f32) (harg6 : arg6.IsWhole)
  (arg7 : Memref sig .tc .vmem S1x1024 .f32) (harg7 : arg7.IsWhole)
  (arg8 : Memref sig .tc .vmem S1x384 .f32) (harg8 : arg8.IsWhole)
  (arg9 : Memref sig .tc .vmem S3584x1024 .fp8e4m3) (harg9 : arg9.IsWhole)
  (arg10 : Memref sig .tc .vmem S1024x3840 .fp8e4m3) (harg10 : arg10.IsWhole)
  (arg11 : Memref sig .tc .vmem S3584x416 .fp8e4m3) (harg11 : arg11.IsWhole)
  (arg12 : Memref sig .tc .vmem S384x6400 .fp8e4m3) (harg12 : arg12.IsWhole)
  (arg13 : Memref sig .tc .vmem S3840x3584 .fp8e4m3) (harg13 : arg13.IsWhole)
  (arg14 : Memref sig .tc .vmem S256x32 .f32) (harg14 : arg14.IsWhole)
  (arg15 : Memref sig .tc .vmem S256x32 .f32) (harg15 : arg15.IsWhole)
  (arg16 : Memref sig .tc .vmem S256x3584 .bf16) (harg16 : arg16.IsWhole)
  (arg17 : Memref sig .tc .vmem S256x3584 .fp8e4m3) (harg17 : arg17.IsWhole)
  (arg18 : Memref sig .tc .vmem S256x28 .f32) (harg18 : arg18.IsWhole)
  (arg19 : Memref sig .tc .vmem S256x1024 .fp8e4m3) (harg19 : arg19.IsWhole)
  (arg20 : Memref sig .tc .vmem S256x8 .f32) (harg20 : arg20.IsWhole)
  (arg21 : Memref sig .tc .vmem S256x384 .fp8e4m3) (harg21 : arg21.IsWhole)
  (arg22 : Memref sig .tc .vmem S256x3 .f32) (harg22 : arg22.IsWhole)
  (arg23 : Memref sig .tc .vmem S256x3840 .fp8e4m3) (harg23 : arg23.IsWhole)
  (arg24 : Memref sig .tc .vmem S256x30 .f32) (harg24 : arg24.IsWhole)
  (arg25 : Memref sig .tc .vmem S256x3584 .bf16) (harg25 : arg25.IsWhole)
  (arg26 : Memref sig .tc .vmem S256x1024 .f32) (harg26 : arg26.IsWhole)
  (arg27 : Memref sig .tc .vmem S256x1024 .bf16) (harg27 : arg27.IsWhole)
  (arg28 : Memref sig .tc .vmem S256x416 .f32) (harg28 : arg28.IsWhole)
  (arg29 : Memref sig .tc .vmem S256x384 .bf16) (harg29 : arg29.IsWhole)
  (arg30 : Memref sig .tc .vmem S256x3840 .f32) (harg30 : arg30.IsWhole)
  (arg31 : Memref sig .tc .vmem S256x6400 .bf16) (harg31 : arg31.IsWhole)
  (arg32 : Memref sig .tc .vmem S256x3840 .f32) (harg32 : arg32.IsWhole)
  (arg33 : Memref sig .tc .vmem S256x3840 .bf16) (harg33 : arg33.IsWhole)
  (x0 : Vec F S28x8 .f32)
  (x1 : Vec F S8x30 .f32)
  (x2 : Vec F S28x4 .f32)
  (x3 : Vec F S3x50 .f32)
  (x4 : Vec F S30x28 .f32)
  (x5 : Vec F S256x3584 .bf16)
  (x6 : Vec F S1x3584 .f32)
  (x7 : Vec F S1x1024 .f32)
  (x8 : Vec F S1x384 .f32)
  (x9 : Vec F S3584x1024 .fp8e4m3)
  (x10 : Vec F S1024x3840 .fp8e4m3)
  (x11 : Vec F S3584x416 .fp8e4m3)
  (x12 : Vec F S384x6400 .fp8e4m3)
  (x13 : Vec F S3840x3584 .fp8e4m3)
  (x14 : Vec F S256x32 .f32)
  (x15 : Vec F S256x32 .f32)

theorem hs0_eq : (kernelRun0_A.sl.HS0_28 c arg5 harg5 arg6 harg6  x5 x6)
    = tiles 256 128 1 28 rfl rfl (fun _ b => qA (xV (fun B => View.readAt (Elt F) arg5.view B (harg5.unread x5)) (fun B => View.readAt (Elt
      F) arg6.view B (harg6.unread x6)) b)) := by
  sl_kernel_rfl

theorem hs1_eq : (kernelRun0_A.sl.HS1_4 c arg0 harg0 arg5 harg5 arg6 harg6 arg9 harg9 arg25 x0 x5 x6 x9)
    = tiles 256 256 1 4 rfl rfl (fun _ n => cqP (blk (fun B => arg25.view.readCov (kernelRun0_A.sl.HS0_28 c arg5 harg5 arg6 harg6  x5 x6)
      B) (r := 0) (c := 0) (H := 256) (W := 3584) (by omega) (by omega)) (fun B => View.readAt (Elt F) arg9.view B (harg9.unread x9)) (fun
      B => View.readAt (Elt F) arg0.view B (harg0.unread x0)) n) := by
  sl_kernel_rfl

theorem hs2_eq : (kernelRun0_A.sl.HS2_8 c arg0 harg0 arg5 harg5 arg6 harg6 arg7 harg7 arg9 harg9 arg25 arg26 x0 x5 x6 x7 x9)
    = tiles 256 128 1 8 rfl rfl (fun _ b => qA (cqV (fun B => arg26.view.readCov (kernelRun0_A.sl.HS1_4 c arg0 harg0 arg5 harg5 arg6 harg6
      arg9 harg9 arg25 x0 x5 x6 x9) B) (fun B => View.readAt (Elt F) arg7.view B (harg7.unread x7)) b)) := by
  sl_kernel_rfl

theorem hs3_eq : (kernelRun0_A.sl.HS3_2 c arg2 harg2 arg5 harg5 arg6 harg6 arg11 harg11 arg25 x2 x5 x6 x11)
    = [⟨box (M := 256) (N := 416) (r := 0) (c := 256) (H := 256) (W := 160) (by omega) (by omega), kvP160 (blk (fun B => arg25.view.readCov
      (kernelRun0_A.sl.HS0_28 c arg5 harg5 arg6 harg6  x5 x6) B) (r := 0) (c := 0) (H := 256) (W := 3584) (by omega) (by omega)) (fun B =>
      View.readAt (Elt F) arg11.view B (harg11.unread x11)) (fun B => View.readAt (Elt F) arg2.view B (harg2.unread x2))⟩,
  ⟨box (M := 256) (N := 416) (r := 0) (c := 0) (H := 256) (W := 256) (by omega) (by omega), kvP (blk (fun B => arg25.view.readCov
      (kernelRun0_A.sl.HS0_28 c arg5 harg5 arg6 harg6  x5 x6) B) (r := 0) (c := 0) (H := 256) (W := 3584) (by omega) (by omega)) (fun B =>
      View.readAt (Elt F) arg11.view B (harg11.unread x11)) (fun B => View.readAt (Elt F) arg2.view B (harg2.unread x2))⟩] := by
  sl_kernel_rfl

theorem hs4_eq : (kernelRun0_A.sl.HS4_3 c arg2 harg2 arg5 harg5 arg6 harg6 arg8 harg8 arg11 harg11 arg25 arg28 x2 x5 x6 x8 x11)
    = tiles 256 128 1 3 rfl rfl (fun _ b => qA (kvV (fun B => arg28.view.readCov (kernelRun0_A.sl.HS3_2 c arg2 harg2 arg5 harg5 arg6 harg6
      arg11 harg11 arg25 x2 x5 x6 x11) B) (fun B => View.readAt (Elt F) arg8.view B (harg8.unread x8)) b)) := by
  sl_kernel_rfl

theorem hs5_eq : (kernelRun0_A.sl.HS5_15 c arg0 harg0 arg1 harg1 arg5 harg5 arg6 harg6 arg7 harg7 arg9 harg9 arg10 harg10 arg25 arg26 arg27
      x0 x1 x5 x6 x7 x9 x10)
    = tiles 256 256 1 15 rfl rfl (fun _ n => qP (blk (fun B => arg27.view.readCov (kernelRun0_A.sl.HS2_8 c arg0 harg0 arg5 harg5 arg6 harg6
      arg7 harg7 arg9 harg9 arg25 arg26 x0 x5 x6 x7 x9) B) (r := 0) (c := 0) (H := 256) (W := 1024) (by omega) (by omega)) (fun B =>
      View.readAt (Elt F) arg10.view B (harg10.unread x10)) (fun B => View.readAt (Elt F) arg1.view B (harg1.unread x1)) n) := by
  sl_kernel_rfl

theorem hs6_eq : (kernelRun0_A.sl.HS6_25 c arg2 harg2 arg3 harg3 arg5 harg5 arg6 harg6 arg8 harg8 arg11 harg11 arg12 harg12 arg25 arg28
      arg29 x2 x3 x5 x6 x8 x11 x12)
    = tiles 256 256 1 25 rfl rfl (fun _ n => kvbP (blk (fun B => arg29.view.readCov (kernelRun0_A.sl.HS4_3 c arg2 harg2 arg5 harg5 arg6
      harg6 arg8 harg8 arg11 harg11 arg25 arg28 x2 x5 x6 x8 x11) B) (r := 0) (c := 0) (H := 256) (W := 384) (by omega) (by omega)) (fun B
      => View.readAt (Elt F) arg12.view B (harg12.unread x12)) (fun B => View.readAt (Elt F) arg3.view B (harg3.unread x3)) n) := by
  sl_kernel_rfl

theorem hs7_eq : (kernelRun0_A.sl.HS7_80 c arg0 harg0 arg1 harg1 arg2 harg2 arg3 harg3 arg5 harg5 arg6 harg6 arg7 harg7 arg8 harg8 arg9
      harg9 arg10 harg10 arg11 harg11 arg12 harg12 arg14 harg14 arg15 harg15 arg25 arg26 arg27 arg28 arg29 arg30 arg31 x0 x1 x2 x3 x5 x6 x7
      x8 x9 x10 x11 x12 x14 x15)
    = tiles 128 96 2 40 rfl rfl (fun b h => headV (rotV (blk (fun B => arg28.view.readCov (kernelRun0_A.sl.HS3_2 c arg2 harg2 arg5 harg5
      arg6 harg6 arg11 harg11 arg25 x2 x5 x6 x11) B) (r := 0) (c := 384) (H := 256) (W := 32) (by omega) (by omega)) (blk (fun B =>
      View.readAt (Elt F) arg14.view B (harg14.unread x14)) (r := 0) (c := 0) (H := 256) (W := 32) (by omega) (by omega)) (blk (fun B =>
      View.readAt (Elt F) arg15.view B (harg15.unread x15)) (r := 0) (c := 0) (H := 256) (W := 32) (by omega) (by omega))) (fun B =>
      arg30.view.readCov (kernelRun0_A.sl.HS5_15 c arg0 harg0 arg1 harg1 arg5 harg5 arg6 harg6 arg7 harg7 arg9 harg9 arg10 harg10 arg25
      arg26 arg27 x0 x1 x5 x6 x7 x9 x10) B) (fun B => arg31.view.readCov (kernelRun0_A.sl.HS6_25 c arg2 harg2 arg3 harg3 arg5 harg5 arg6
      harg6 arg8 harg8 arg11 harg11 arg12 harg12 arg25 arg28 arg29 x2 x3 x5 x6 x8 x11 x12) B) (blk (fun B => View.readAt (Elt F) arg14.view
      B (harg14.unread x14)) (r := 0) (c := 0) (H := 256) (W := 32) (by omega) (by omega)) (blk (fun B => View.readAt (Elt F) arg15.view B
      (harg15.unread x15)) (r := 0) (c := 0) (H := 256) (W := 32) (by omega) (by omega)) b h) := by
  sl_kernel_rfl

theorem hs8_eq : (kernelRun0_A.sl.HS8_30 c arg0 harg0 arg1 harg1 arg2 harg2 arg3 harg3 arg5 harg5 arg6 harg6 arg7 harg7 arg8 harg8 arg9
      harg9 arg10 harg10 arg11 harg11 arg12 harg12 arg14 harg14 arg15 harg15 arg25 arg26 arg27 arg28 arg29 arg30 arg31 arg32 x0 x1 x2 x3 x5
      x6 x7 x8 x9 x10 x11 x12 x14 x15)
    = tiles 256 128 1 30 rfl rfl (fun _ b => qA (oV (fun B => arg32.view.readCov (kernelRun0_A.sl.HS7_80 c arg0 harg0 arg1 harg1 arg2 harg2
      arg3 harg3 arg5 harg5 arg6 harg6 arg7 harg7 arg8 harg8 arg9 harg9 arg10 harg10 arg11 harg11 arg12 harg12 arg14 harg14 arg15 harg15
      arg25 arg26 arg27 arg28 arg29 arg30 arg31 x0 x1 x2 x3 x5 x6 x7 x8 x9 x10 x11 x12 x14 x15) B) b)) := by
  sl_kernel_rfl

theorem o16_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).1
    = tiles 256 256 1 14 rfl rfl (fun _ n => yP (fun B => View.readAt (Elt F) arg5.view B (harg5.unread x5)) (blk (fun B =>
      arg33.view.readCov (kernelRun0_A.sl.HS8_30 c arg0 harg0 arg1 harg1 arg2 harg2 arg3 harg3 arg5 harg5 arg6 harg6 arg7 harg7 arg8 harg8
      arg9 harg9 arg10 harg10 arg11 harg11 arg12 harg12 arg14 harg14 arg15 harg15 arg25 arg26 arg27 arg28 arg29 arg30 arg31 arg32 x0 x1 x2
      x3 x5 x6 x7 x8 x9 x10 x11 x12 x14 x15) B) (r := 0) (c := 0) (H := 256) (W := 3840) (by omega) (by omega)) (fun B => View.readAt (Elt
      F) arg13.view B (harg13.unread x13)) (fun B => View.readAt (Elt F) arg4.view B (harg4.unread x4)) n) := by
  sl_kernel_rfl

theorem o17_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.1
    = tiles 256 128 1 28 rfl rfl (fun _ b => qC (xV (fun B => View.readAt (Elt F) arg5.view B (harg5.unread x5)) (fun B => View.readAt (Elt
      F) arg6.view B (harg6.unread x6)) b)) := by
  sl_kernel_rfl

theorem o18_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.1
    = tiles 256 28 1 1 rfl rfl (fun _ _ => stack 28 S256x1 S256x28 1 side28 (fun b => qS (xV (fun B => View.readAt (Elt F) arg5.view B
      (harg5.unread x5)) (fun B => View.readAt (Elt F) arg6.view B (harg6.unread x6)) b))) := by
  sl_kernel_rfl

theorem o19_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.1
    = tiles 256 128 1 8 rfl rfl (fun _ b => qC (cqV (fun B => arg26.view.readCov (kernelRun0_A.sl.HS1_4 c arg0 harg0 arg5 harg5 arg6 harg6
      arg9 harg9 arg25 x0 x5 x6 x9) B) (fun B => View.readAt (Elt F) arg7.view B (harg7.unread x7)) b)) := by
  sl_kernel_rfl

theorem o20_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.1
    = tiles 256 8 1 1 rfl rfl (fun _ _ => stack 8 S256x1 S256x8 1 side8 (fun b => qS (cqV (fun B => arg26.view.readCov
      (kernelRun0_A.sl.HS1_4 c arg0 harg0 arg5 harg5 arg6 harg6 arg9 harg9 arg25 x0 x5 x6 x9) B) (fun B => View.readAt (Elt F) arg7.view B
      (harg7.unread x7)) b))) := by
  sl_kernel_rfl

theorem o21_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.1
    = tiles 256 128 1 3 rfl rfl (fun _ b => qC (kvV (fun B => arg28.view.readCov (kernelRun0_A.sl.HS3_2 c arg2 harg2 arg5 harg5 arg6 harg6
      arg11 harg11 arg25 x2 x5 x6 x11) B) (fun B => View.readAt (Elt F) arg8.view B (harg8.unread x8)) b)) := by
  sl_kernel_rfl

theorem o22_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.1
    = tiles 256 3 1 1 rfl rfl (fun _ _ => stack 3 S256x1 S256x3 1 side3 (fun b => qS (kvV (fun B => arg28.view.readCov
      (kernelRun0_A.sl.HS3_2 c arg2 harg2 arg5 harg5 arg6 harg6 arg11 harg11 arg25 x2 x5 x6 x11) B) (fun B => View.readAt (Elt F) arg8.view
      B (harg8.unread x8)) b))) := by
  sl_kernel_rfl

theorem o23_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.2.1
    = tiles 256 128 1 30 rfl rfl (fun _ b => qC (oV (fun B => arg32.view.readCov (kernelRun0_A.sl.HS7_80 c arg0 harg0 arg1 harg1 arg2 harg2
      arg3 harg3 arg5 harg5 arg6 harg6 arg7 harg7 arg8 harg8 arg9 harg9 arg10 harg10 arg11 harg11 arg12 harg12 arg14 harg14 arg15 harg15
      arg25 arg26 arg27 arg28 arg29 arg30 arg31 x0 x1 x2 x3 x5 x6 x7 x8 x9 x10 x11 x12 x14 x15) B) b)) := by
  sl_kernel_rfl

theorem o24_eq : (kernelRun0_A c arg0 harg0 arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.2.2.1
    = tiles 256 30 1 1 rfl rfl (fun _ _ => stack 30 S256x1 S256x30 1 side30 (fun b => qS (oV (fun B => arg32.view.readCov
      (kernelRun0_A.sl.HS7_80 c arg0 harg0 arg1 harg1 arg2 harg2 arg3 harg3 arg5 harg5 arg6 harg6 arg7 harg7 arg8 harg8 arg9 harg9 arg10
      harg10 arg11 harg11 arg12 harg12 arg14 harg14 arg15 harg15 arg25 arg26 arg27 arg28 arg29 arg30 arg31 x0 x1 x2 x3 x5 x6 x7 x8 x9 x10
      x11 x12 x14 x15) B) b))) := by
  sl_kernel_rfl

end Cert.KernelIdeal.Gen

end
-- ==== Proof.Quant.lean ====
/-
  The quantiser's scale at one block, as a fact about extended reals. The reference takes the least exponent `k` of −125 … 126
  with `w < 2 ^ k` (126 if there is none, and 0 when `w < 2 ^ (−126)`), and the scale `2 ^ k`. The kernel takes the greatest
  exponent field of 1 … 252 whose power of two is at most `w` (0 if there is none), and builds the two scales from that field.
  Both are functions of one number `E`, the number of fields whose power of two is at most `w`.
-/
module

public import Idealize.ShloMosaic.Lib.Pointwise
public import Idealize.ShloMosaic.Lib.IdealHost

@[expose] public section

noncomputable section

namespace Cert.Mla

open Idealize.ShloMosaic

/-- The extended real `2 ^ z`. -/
def pw (z : ℤ) : EReal := (((2 : ℝ) ^ z : ℝ) : EReal)

theorem pw_le {a b : ℤ} (h : a ≤ b) : pw a ≤ pw b :=
  EReal.coe_le_coe_iff.mpr (zpow_le_zpow_right₀ (by norm_num) h)

/-- The pattern whose exponent field is `n` and whose fraction is 0 denotes `2 ^ (n − 127)`. -/
theorem ofBits_field (n : ℕ) (h1 : 1 ≤ n) (h2 : n ≤ 254) :
    Ideal.ofBits .f32 (BitVec.ofNat 32 (n * 8388608)) = pw ((n : ℤ) - 127) := by
  have key : ∀ m : Fin 255, ((BitVec.ofNat 32 (m.val * 8388608)).extractLsb' (8 + 23) 1 == 1#1) = false ∧
      ((BitVec.ofNat 32 (m.val * 8388608)).extractLsb' 23 8).toNat = m.val ∧
      ((BitVec.ofNat 32 (m.val * 8388608)).extractLsb' 0 23).toNat = 0 := by decide +kernel
  obtain ⟨k1, k2, k3⟩ := key ⟨n, by omega⟩
  simp only at k1 k2 k3
  show Ideal.ieee 8 23 (BitVec.ofNat 32 (n * 8388608)) = _
  unfold Ideal.ieee
  simp only [k1, k2, k3]
  rw [if_neg (by omega), if_neg (by omega)]
  unfold pw
  congr 1
  rw [show ((n : ℤ) - 127) = 23 + ((n : ℤ) - 127 - 23) by ring, zpow_add₀ (by norm_num)]
  norm_num

/-- The exponent field the kernel compares against at lane `x`. -/
def fld (x : ℕ) : BitVec 32 :=
  IntOp.shli ArithUnit.vector (IntOp.minsi (IntOp.addi (BitVec.ofNat 32 x) 1#32) 252#32) 23#32

/-- The greatest field whose power of two is at most `w`, as the kernel computes it. -/
def field (w : EReal) : BitVec 32 :=
  Finset.fold IntOp.maxsi 2147483648#32 (fun x : Fin 256 => if Ideal.ofBits .f32 (fld x.val) ≤ w then fld x.val else 0#32)
    Finset.univ

/-- The kernel's scale. -/
def kscale (w : EReal) : EReal :=
  Scalar.select (IntOp.cmpi CmpIPredicate.eq (field w) 0#32) (1 : EReal)
    (Ideal.ofBits .f32 (IntOp.addi (field w) 8388608#32))

/-- The kernel's reciprocal scale. -/
def kinv (w : EReal) : EReal :=
  Scalar.select (IntOp.cmpi CmpIPredicate.eq (field w) 0#32) (1 : EReal)
    (Ideal.ofBits .f32 (IntOp.subi 2122317824#32 (field w)))

/-- The reference's exponent. -/
def qe (w : EReal) : EReal :=
  if w < Ideal.ofBits .f32 8388608#32 then 0
  else Finset.fold min (Ideal.ofBits .f32 2139095040#32)
    (fun x : Fin 252 =>
      if w < Ideal.exp2 ((((BitVec.ofNat 32 x.val).toInt : ℝ) : EReal) - Ideal.ofBits .f32 1123680256#32) then
        (((BitVec.ofNat 32 x.val).toInt : ℝ) : EReal) - Ideal.ofBits .f32 1123680256#32
      else Ideal.ofBits .f32 1123811328#32) Finset.univ

/-- How many of the fields 1 … 252 have their power of two at most `w`. -/
theorem exists_count (w : EReal) : ∃ E : ℕ, E ≤ 252 ∧ ∀ n : ℕ, 1 ≤ n → n ≤ 252 → (pw ((n : ℤ) - 127) ≤ w ↔ n ≤ E) := by
  classical
  refine ⟨Nat.findGreatest (fun n => n = 0 ∨ pw ((n : ℤ) - 127) ≤ w) 252, Nat.findGreatest_le _, fun n h1 h2 => ⟨fun h => ?_, fun h => ?_⟩⟩
  · exact Nat.le_findGreatest h2 (Or.inr h)
  · have hs := Nat.findGreatest_spec (P := fun n => n = 0 ∨ pw ((n : ℤ) - 127) ≤ w) (n := 252) (m := 0) (by omega) (Or.inl rfl)
    rcases hs with h0 | hs
    · omega
    · exact (pw_le (by omega)).trans hs

theorem fld_eq : ∀ x : Fin 256, fld x.val = BitVec.ofNat 32 (min (x.val + 1) 252 * 8388608) := by decide +kernel

/-- The pattern of field `z`, and the least pattern below field 0. -/
def pat (z : ℤ) : BitVec 32 := if z < 0 then 2147483648#32 else BitVec.ofNat 32 (min z.toNat 252 * 8388608)

theorem pat_toInt (z : ℤ) : (pat z).toInt = if z < 0 then -2147483648 else ((min z.toNat 252 : ℕ) : ℤ) * 8388608 := by
  have key : ∀ e : Fin 253, (BitVec.ofNat 32 (e.val * 8388608)).toInt = (e.val : ℤ) * 8388608 := by decide +kernel
  unfold pat
  split
  · rfl
  · exact key ⟨min z.toNat 252, by omega⟩

theorem pat_max (x y : ℤ) : pat (max x y) = IntOp.maxsi (pat x) (pat y) := by
  have mono : ∀ a b : ℤ, a ≤ b → (pat a).toInt ≤ (pat b).toInt := by
    intro a b h
    rw [pat_toInt, pat_toInt]
    split <;> split <;> omega
  unfold IntOp.maxsi
  rcases le_total x y with h | h
  · rw [max_eq_right h]
    split
    · next hc =>
        have h1 : (pat y).toInt < (pat x).toInt := by simpa [BitVec.slt] using hc
        exact BitVec.eq_of_toInt_eq (le_antisymm h1.le (mono _ _ h))
    · rfl
  · rw [max_eq_left h]
    split
    · rfl
    · next hc =>
        have h1 : (pat x).toInt ≤ (pat y).toInt := by simpa [BitVec.slt] using hc
        exact BitVec.eq_of_toInt_eq (le_antisymm h1 (mono _ _ h))

theorem fold_fields (E : ℕ) (hE : E ≤ 252) : Finset.fold IntOp.maxsi 2147483648#32
    (fun x : Fin 256 => if min (x.val + 1) 252 ≤ E then BitVec.ofNat 32 (min (x.val + 1) 252 * 8388608) else 0#32)
    Finset.univ = BitVec.ofNat 32 (E * 8388608) := by
  have hf : (fun x : Fin 256 => if min (x.val + 1) 252 ≤ E then BitVec.ofNat 32 (min (x.val + 1) 252 * 8388608) else 0#32)
      = fun x : Fin 256 => pat (if min (x.val + 1) 252 ≤ E then ((min (x.val + 1) 252 : ℕ) : ℤ) else 0) := by
    funext x
    unfold pat
    split
    · rw [if_neg (by omega), Int.toNat_natCast, min_eq_left (by omega : min (x.val + 1) 252 ≤ 252)]
    · rfl
  have hm : Finset.fold max (-1 : ℤ) (fun x : Fin 256 => if min (x.val + 1) 252 ≤ E then ((min (x.val + 1) 252 : ℕ) : ℤ) else 0)
      Finset.univ = (E : ℤ) := by
    apply le_antisymm
    · rw [Finset.fold_max_le]
      refine ⟨by omega, fun x _ => ?_⟩
      split <;> omega
    · rw [Finset.le_fold_max]
      refine Or.inr ⟨⟨E - 1, by omega⟩, Finset.mem_univ _, ?_⟩
      simp only
      split <;> omega
  rw [hf, show (2147483648#32 : BitVec 32) = pat (-1) from rfl, Finset.fold_hom pat_max, hm]
  unfold pat
  rw [if_neg (by omega), Int.toNat_natCast, min_eq_left hE]

theorem field_eq (w : EReal) (E : ℕ) (hE : E ≤ 252) (h : ∀ n : ℕ, 1 ≤ n → n ≤ 252 → (pw ((n : ℤ) - 127) ≤ w ↔ n ≤ E)) :
    field w = BitVec.ofNat 32 (E * 8388608) := by
  rw [← fold_fields E hE]
  unfold field
  refine Finset.fold_congr fun x _ => ?_
  rw [fld_eq x, ofBits_field _ (by omega) (by omega)]
  exact if_congr (h _ (by omega) (by omega)) rfl rfl

theorem ofBits_125 : Ideal.ofBits .f32 1123680256#32 = ((125 : ℝ) : EReal) := by
  simp [Ideal.ofBits, Ideal.ieee, -EReal.coe_mul]; norm_num

theorem ofBits_126 : Ideal.ofBits .f32 1123811328#32 = ((126 : ℝ) : EReal) := by
  simp [Ideal.ofBits, Ideal.ieee, -EReal.coe_mul]; norm_num

theorem ofBits_inf : Ideal.ofBits .f32 2139095040#32 = ⊤ := by
  simp [Ideal.ofBits, Ideal.ieee]

theorem toInt_ofNat : ∀ k : Fin 252, (BitVec.ofNat 32 k.val).toInt = (k.val : ℤ) := by decide +kernel

theorem exp2_int (z : ℤ) : Ideal.exp2 (((z : ℝ)) : EReal) = pw z := by
  rw [Ideal.exp2_coe, pw]; congr 1; exact Real.rpow_intCast 2 z

theorem qe_eq (w : EReal) (E : ℕ) (hE : E ≤ 252) (h : ∀ n : ℕ, 1 ≤ n → n ≤ 252 → (pw ((n : ℤ) - 127) ≤ w ↔ n ≤ E)) :
    qe w = if E = 0 then 0 else ((((E : ℤ) - 126 : ℤ) : ℝ) : EReal) := by
  unfold qe
  have h1 := h 1 le_rfl (by norm_num)
  have hb : Ideal.ofBits .f32 8388608#32 = pw (((1 : ℕ) : ℤ) - 127) := ofBits_field 1 le_rfl (by norm_num)
  by_cases h0 : E = 0
  · rw [if_pos h0, if_pos]
    rw [hb, ← not_le, h1]; omega
  · rw [if_neg h0, if_neg (by rw [hb, not_lt, h1]; omega)]
    have hk : ∀ x : Fin 252, (((BitVec.ofNat 32 x.val).toInt : ℝ) : EReal) - Ideal.ofBits .f32 1123680256#32
        = ((((x.val : ℤ) - 125 : ℤ) : ℝ) : EReal) := by
      intro x
      rw [ofBits_125, toInt_ofNat x, ← EReal.coe_sub]; congr 1; push_cast; ring
    have hf : (fun x : Fin 252 =>
        if w < Ideal.exp2 ((((BitVec.ofNat 32 x.val).toInt : ℝ) : EReal) - Ideal.ofBits .f32 1123680256#32) then
          (((BitVec.ofNat 32 x.val).toInt : ℝ) : EReal) - Ideal.ofBits .f32 1123680256#32
        else Ideal.ofBits .f32 1123811328#32)
        = fun x : Fin 252 => ((((if x.val + 2 ≤ E then 126 else (x.val : ℤ) - 125) : ℤ) : ℝ) : EReal) := by
      funext x
      rw [hk x, exp2_int, ofBits_126]
      by_cases hx : x.val = 251
      · have e1 : ((x.val : ℤ) - 125) = 126 := by omega
        rw [e1]; simp
      · have := h (x.val + 2) (by omega) (by omega)
        rw [show (((x.val + 2 : ℕ) : ℤ) - 127) = (x.val : ℤ) - 125 by push_cast; ring] at this
        by_cases hle : x.val + 2 ≤ E
        · rw [if_pos hle, if_neg (not_lt.mpr (this.mpr hle))]; norm_num
        · rw [if_neg hle, if_pos (not_le.mp fun h' => hle (this.mp h'))]
    rw [hf, ofBits_inf]
    apply le_antisymm
    · rw [Finset.fold_min_le]
      refine Or.inr ⟨⟨E - 1, by omega⟩, Finset.mem_univ _, ?_⟩
      rw [if_neg (by simp only; omega)]
      exact EReal.coe_le_coe_iff.mpr (by exact_mod_cast (by omega : (((E - 1 : ℕ) : ℤ) - 125) ≤ (E : ℤ) - 126))
    · rw [Finset.le_fold_min]
      refine ⟨le_top, fun x _ => EReal.coe_le_coe_iff.mpr ?_⟩
      have : (E : ℤ) - 126 ≤ (if x.val + 2 ≤ E then 126 else (x.val : ℤ) - 125) := by split <;> omega
      exact_mod_cast this

theorem field_zero : ∀ e : Fin 253, IntOp.cmpi CmpIPredicate.eq (BitVec.ofNat 32 (e.val * 8388608)) 0#32
    = if e.val = 0 then 1#1 else 0#1 := by decide +kernel

theorem field_up : ∀ e : Fin 253, IntOp.addi (BitVec.ofNat 32 (e.val * 8388608)) 8388608#32
    = BitVec.ofNat 32 ((e.val + 1) * 8388608) := by decide +kernel

theorem field_down : ∀ e : Fin 253, IntOp.subi 2122317824#32 (BitVec.ofNat 32 (e.val * 8388608))
    = BitVec.ofNat 32 ((253 - e.val) * 8388608) := by decide +kernel

theorem select_zero (a b : EReal) : Scalar.select 0#1 a b = b := rfl
theorem select_one (a b : EReal) : Scalar.select 1#1 a b = a := rfl

/-- The kernel's scale is the reference's. -/
theorem kscale_eq (w : EReal) : kscale w = Ideal.exp2 (qe w) := by
  obtain ⟨E, hE, h⟩ := exists_count w
  have hz := field_zero ⟨E, by omega⟩
  have hu := field_up ⟨E, by omega⟩
  rw [qe_eq w E hE h, kscale, field_eq w E hE h, hz, hu]
  by_cases h0 : E = 0
  · rw [if_pos h0, if_pos h0, select_one]
    have := exp2_int 0
    rw [Int.cast_zero, EReal.coe_zero] at this
    rw [this]; simp [pw]
  · rw [if_neg h0, if_neg h0, select_zero, ofBits_field _ (by omega) (by simp only; omega), exp2_int]
    congr 1; push_cast; ring

/-- The kernel's reciprocal scale is the reference's. -/
theorem kinv_eq (w : EReal) : kinv w = Ideal.exp2 (0 - qe w) := by
  obtain ⟨E, hE, h⟩ := exists_count w
  have hz := field_zero ⟨E, by omega⟩
  have hd := field_down ⟨E, by omega⟩
  rw [qe_eq w E hE h, kinv, field_eq w E hE h, hz, hd]
  by_cases h0 : E = 0
  · rw [if_pos h0, if_pos h0, select_one, sub_zero]
    have := exp2_int 0
    rw [Int.cast_zero, EReal.coe_zero] at this
    rw [this]; simp [pw]
  · rw [if_neg h0, if_neg h0, select_zero, ofBits_field _ (by simp only; omega) (by simp only; omega), zero_sub, ← EReal.coe_neg,
      ← Int.cast_neg, exp2_int]
    congr 1; simp only; omega

theorem ofBits_3584 : Ideal.ofBits .f32 1163919360#32 = ((3584 : ℝ) : EReal) := by
  simp [Ideal.ofBits, Ideal.ieee, -EReal.coe_mul]; norm_num

theorem ofBits_1024 : Ideal.ofBits .f32 1149239296#32 = ((1024 : ℝ) : EReal) := by
  simp [Ideal.ofBits, Ideal.ieee, -EReal.coe_mul]; norm_num

theorem ofBits_384 : Ideal.ofBits .f32 1136656384#32 = ((384 : ℝ) : EReal) := by
  simp [Ideal.ofBits, Ideal.ieee, -EReal.coe_mul]; norm_num

theorem ofBits_inv1024 : Ideal.ofBits .f32 981467136#32 = ((1 / 1024 : ℝ) : EReal) := by
  simp [Ideal.ofBits, Ideal.ieee, -EReal.coe_mul]; norm_num

/-- The kernel's product with the reciprocal of 1024 is the reference's quotient. -/
theorem mean_1024 (S : EReal) : S * Ideal.ofBits .f32 981467136#32 = Ideal.div S (Ideal.ofBits .f32 1149239296#32) := by
  rw [ofBits_1024, ofBits_inv1024, Ideal.div_coe (by norm_num)];

end Cert.Mla

end
-- ==== Proof.Spec.lean ====
/-
  What the nine results are, over the extended reals: the layer written on matrices of entries, each step once. Both
  programs are shown to leave these.
-/
module

public import proofs.«01_k».proof.Proof.Quant

@[expose] public section

noncomputable section

namespace Cert.Mla

open Idealize.ShloMosaic

/-- A matrix of extended reals. -/
abbrev Mat (m n : ℕ) : Type := Fin m → Fin n → EReal

/-- A matrix as an array. -/
def Arr {α : Type} {m n : ℕ} (f : Fin m → Fin n → α) : (⟨2, ![m, n]⟩ : Shape).Idx → α := fun y => f (y 0) (y 1)

/-- Each row over the root of its mean square, times the gains; `c` is the pattern of the number of columns. -/
def rms {k : ℕ} (c : BitVec 32) (x : Mat 256 k) (g : Fin k → EReal) : Mat 256 k := fun i j =>
  x i j * Ideal.rsqrt (Ideal.div (∑ l, x i l * x i l) (Ideal.ofBits .f32 c) + Ideal.ofBits .f32 897988541#32) * g j

/-- The greatest magnitude of 128 consecutive columns, times the rounded 1/448. -/
def qmax {k n : ℕ} (h : 128 * n = k) (v : Mat 256 k) (i : Fin 256) (b : Fin n) : EReal :=
  Finset.univ.fold max (Ideal.ofBits .f32 4286578688#32)
    (fun l : Fin 128 => FloatOps.absf (F := Ideal) (φ := .f32) (v i ⟨128 * b.val + l.val, by omega⟩)) * Ideal.ofBits .f32 991054117#32

/-- The scale of 128 consecutive columns, a power of two. -/
def scaleOf {k n : ℕ} (h : 128 * n = k) (v : Mat 256 k) : Mat 256 n := fun i b => Ideal.exp2 (qe (qmax h v i b))

theorem colLt {k n : ℕ} (h : 128 * n = k) (b : Fin n) (l : Fin 128) : 128 * b.val + l.val < k := by omega

theorem divLt {k n : ℕ} (h : k ≤ 128 * n) (j : Fin k) : j.val / 128 < n := by omega

/-- The codes: each entry over its scale, held between −448 and 448. -/
def codeOf {k n : ℕ} (h : 128 * n = k) (v : Mat 256 k) : Mat 256 k := fun i j =>
  min (Ideal.ofBits .f32 1138753536#32) (max (Ideal.ofBits .f32 3286237184#32)
    (v i j * Ideal.exp2 (0 - qe (qmax h v i ⟨j.val / 128, divLt h.ge j⟩))))

/-- The codes times their scales. -/
def deqOf {k n : ℕ} (h : 128 * n = k) (v : Mat 256 k) : Mat 256 k := fun i j =>
  codeOf h v i j * scaleOf h v i ⟨j.val / 128, divLt h.ge j⟩

/-- The product with weights that carry one scale for each of their 128 × 128 blocks. -/
def proj {k n nk nn : ℕ} (hk : k ≤ 128 * nk) (hn : n ≤ 128 * nn) (a : Mat 256 k) (w : Mat k n) (s : Mat nk nn) : Mat 256 n := fun i j =>
  ∑ x, a i x * (w x j * s ⟨x.val / 128, divLt hk x⟩ ⟨j.val / 128, divLt hn j⟩)

/-- The turn of each pair of columns by its angle. -/
def rot (cos sin : Mat 128 16) (t : Mat 256 32) : Mat 256 32 := fun i r =>
  if r.val % 2 < 1 then
    t i ⟨r.val / 2 * 2, by omega⟩ * cos ⟨i.val % 128, by omega⟩ ⟨r.val / 2, by omega⟩
      - t i ⟨r.val / 2 * 2 + 1, by omega⟩ * sin ⟨i.val % 128, by omega⟩ ⟨r.val / 2, by omega⟩
  else
    t i ⟨r.val / 2 * 2, by omega⟩ * sin ⟨i.val % 128, by omega⟩ ⟨r.val / 2, by omega⟩
      + t i ⟨r.val / 2 * 2 + 1, by omega⟩ * cos ⟨i.val % 128, by omega⟩ ⟨r.val / 2, by omega⟩

/-- The arguments, and the two tables of the rotary turn. -/
structure Ins where
  x : Mat 256 3584
  g1 : Fin 3584 → EReal
  g2 : Fin 1024 → EReal
  g3 : Fin 384 → EReal
  wqa : Mat 3584 1024
  sqa : Mat 28 8
  wqb : Mat 1024 3840
  sqb : Mat 8 30
  wkva : Mat 3584 416
  skva : Mat 28 4
  wkvb : Mat 384 6400
  skvb : Mat 3 50
  wo : Mat 3840 3584
  so : Mat 30 28
  cos : Mat 128 16
  sin : Mat 128 16

namespace Ins

variable (A : Ins)

def xn : Mat 256 3584 := rms 1163919360#32 A.x A.g1
def xa : Mat 256 3584 := deqOf (n := 28) rfl A.xn
def cq : Mat 256 1024 := proj (by omega) (by omega) A.xa A.wqa A.sqa
def cqn : Mat 256 1024 := rms 1149239296#32 A.cq A.g2
def cqa : Mat 256 1024 := deqOf (n := 8) rfl A.cqn
def kv : Mat 256 416 := proj (by omega) (by omega) A.xa A.wkva A.skva
def kvl : Mat 256 384 := fun i j => A.kv i ⟨j.val, by omega⟩
def kvn : Mat 256 384 := rms 1136656384#32 A.kvl A.g3
def kva : Mat 256 384 := deqOf (n := 3) rfl A.kvn
def q : Mat 256 3840 := proj (by omega) (by omega) A.cqa A.wqb A.sqb
def kvb : Mat 256 6400 := proj (by omega) (by omega) A.kva A.wkvb A.skvb
def kr : Mat 256 32 := rot A.cos A.sin fun i r => A.kv i ⟨384 + r.val, by omega⟩
def qr (h : Fin 40) : Mat 256 32 := rot A.cos A.sin fun i r => A.q i ⟨96 * h.val + 64 + r.val, by omega⟩

/-- The masked scores of head `h` of batch `b`. -/
def score (b : Fin 2) (h : Fin 40) : Mat 128 128 := fun i j =>
  Scalar.select (IntOp.cmpi CmpIPredicate.sle (BitVec.ofNat 32 j.val) (BitVec.ofNat 32 i.val))
    ((∑ d : Fin 64, A.q ⟨128 * b.val + i.val, by omega⟩ ⟨96 * h.val + d.val, by omega⟩
          * A.kvb ⟨128 * b.val + j.val, by omega⟩ ⟨160 * h.val + d.val, by omega⟩
        + ∑ r : Fin 32, A.qr h ⟨128 * b.val + i.val, by omega⟩ r * A.kr ⟨128 * b.val + j.val, by omega⟩ r)
      * Ideal.ofBits .f32 1037108716#32)
    (Ideal.ofBits .f32 4286578688#32)

/-- The exponentials of a score's distance to the greatest of its row. -/
def expo (b : Fin 2) (h : Fin 40) : Mat 128 128 := fun i j =>
  Ideal.exp (A.score b h i j - Finset.univ.fold max (Ideal.ofBits .f32 4286578688#32) (fun l => A.score b h i l))

/-- The attention's result for head `h` of batch `b`. -/
def head (b : Fin 2) (h : Fin 40) (i : Fin 128) (d : Fin 96) : EReal :=
  ∑ k, Ideal.div (A.expo b h i k) (∑ l, A.expo b h i l) * A.kvb ⟨128 * b.val + k.val, by omega⟩ ⟨160 * h.val + 64 + d.val, by omega⟩

def o : Mat 256 3840 := fun i j =>
  A.head ⟨i.val / 128, by omega⟩ ⟨j.val / 96, by omega⟩ ⟨i.val % 128, by omega⟩ ⟨j.val % 96, by omega⟩
def oa : Mat 256 3840 := deqOf (n := 30) rfl A.o
def y : Mat 256 3584 := fun i j => A.x i j + proj (by omega) (by omega) A.oa A.wo A.so i j

end Ins

end Cert.Mla

end
-- ==== Proof.KVals.lean ====
/-
  The kernel's blocks of operations read at an index, over the extended reals.
-/
module

public import proofs.«01_k».proof.Proof.KBlocks
public import proofs.«01_k».proof.Proof.Spec

@[expose] public section

noncomputable section

namespace Cert.KernelIdeal.Gen

open Cert.Mla Idealize.ShloMosaic Idealize.ShloMosaic.TcCoe

theorem fin_split {k n : ℕ} (b : Fin n) (l : Fin 128) (hb : (128 * b.val + l.val) / 128 < n) : (⟨(128 * b.val + l.val) / 128, hb⟩ : Fin n) = b :=
  Fin.ext (by show (128 * b.val + l.val) / 128 = b.val; omega)

theorem named_d : (Named.named (F := Ideal) (φ := .f32) κ "inv_d_model" 965888293#32 : EReal) = ((1 / 3584 : ℝ) : EReal) :=
  IdealRules.named_const.ideal_named_scalar _ _ _ _ rfl

theorem named_kv : (Named.named (F := Ideal) (φ := .f32) κ "inv_kv_lora" 992651947#32 : EReal) = ((1 / 384 : ℝ) : EReal) :=
  IdealRules.named_const.ideal_named_scalar _ _ _ _ rfl

theorem mean_3584 (S : EReal) : S * (Named.named (F := Ideal) (φ := .f32) κ "inv_d_model" 965888293#32 : EReal) = Ideal.div S (Ideal.ofBits .f32 1163919360#32) := by
  rw [named_d, ofBits_3584, Ideal.div_coe (by norm_num)]

theorem mean_384 (S : EReal) : S * (Named.named (F := Ideal) (φ := .f32) κ "inv_kv_lora" 992651947#32 : EReal) = Ideal.div S (Ideal.ofBits .f32 1136656384#32) := by
  rw [named_kv, ofBits_384, Ideal.div_coe (by norm_num)]

theorem qNorm_at (r : FVec Ideal S256x1 .f32) (v : FVec Ideal S256x128 .f32) (g : Vec Ideal S1x128 .f32) (i : Fin 256) (l : Fin 128) :
    qNorm r v g (ix2 i l) = v (ix2 i l) * r (ix2 i 0) * g (ix2 0 l) := by
  pointwise [qNorm]

theorem qW_at (v : FVec Ideal S256x128 .f32) (i : Fin 256) : qW v (ix2 i 0)
    = Finset.univ.fold max (Ideal.ofBits .f32 4286578688#32) (fun l : Fin 128 => FloatOps.absf (F := Ideal) (φ := .f32) (v (ix2 i l)))
      * Ideal.ofBits .f32 991054117#32 := by
  pointwise [qW]

theorem qS_at (v : FVec Ideal S256x128 .f32) (i : Fin 256) : qS v (ix2 i 0) = Ideal.exp2 (qe (qW v (ix2 i 0))) := by
  rw [← kscale_eq]
  pointwise [qS, k0_pay13, k0_pay12, k0_pay11]
  rfl

theorem qC_at (v : FVec Ideal S256x128 .f32) (i : Fin 256) (l : Fin 128) : qC v (ix2 i l)
    = min (Ideal.ofBits .f32 1138753536#32) (max (Ideal.ofBits .f32 3286237184#32) (v (ix2 i l) * Ideal.exp2 (0 - qe (qW v (ix2 i 0))))) := by
  rw [← kinv_eq]
  pointwise [qC, k0_pay14, k0_pay12, k0_pay11]
  rfl

theorem qA_at (v : FVec Ideal S256x128 .f32) (i : Fin 256) (l : Fin 128) : qA v (ix2 i l) = qC v (ix2 i l) * qS v (ix2 i 0) := by
  pointwise [qA, k0_pay15, qC, qS]

section

variable {k n : ℕ} (h : 128 * n = k) (V : Mat 256 k) (b : Fin n) (v : FVec Ideal S256x128 .f32)
  (hv : ∀ (i : Fin 256) (l : Fin 128), v (ix2 i l) = V i ⟨128 * b.val + l.val, colLt h b l⟩)

include hv

theorem qW_read (i : Fin 256) : qW v (ix2 i 0) = qmax h V i b := by
  rw [qW_at]
  unfold qmax
  simp only [hv]

theorem qS_read (i : Fin 256) : qS v (ix2 i 0) = scaleOf h V i b := by
  rw [qS_at, qW_read h V b v hv]
  rfl

theorem qC_read (i : Fin 256) (l : Fin 128) : qC v (ix2 i l) = codeOf h V i ⟨128 * b.val + l.val, by omega⟩ := by
  rw [qC_at, qW_read h V b v hv, hv]
  unfold codeOf
  rw [fin_split (k := k)]

theorem qA_read (i : Fin 256) (l : Fin 128) : qA v (ix2 i l) = deqOf h V i ⟨128 * b.val + l.val, by omega⟩ := by
  rw [qA_at, qC_read h V b v hv, qS_read h V b v hv]
  unfold deqOf
  rw [fin_split (k := k)]

end

theorem wBlk_at (w : Vec Ideal S128x128 .fp8e4m3) (s : Ideal .f32) (i : Fin 128) (l : Fin 128) : wBlk w s (ix2 i l) = (w (ix2 i l) : EReal) * s := by
  pointwise [wBlk]

theorem wBlk32_at (w : Vec Ideal S128x32 .fp8e4m3) (s : Ideal .f32) (i : Fin 128) (l : Fin 32) : wBlk32 w s (ix2 i l) = (w (ix2 i l) : EReal) * s := by
  pointwise [wBlk32]

theorem rs1024_at (v : FVec Ideal S256x1024 .f32) (i : Fin 256) : rs1024 v (ix2 i 0)
    = Ideal.rsqrt (Ideal.div (∑ x, v (ix2 i x) * v (ix2 i x)) (Ideal.ofBits .f32 1149239296#32) + Ideal.ofBits .f32 897988541#32) := by
  rw [← mean_1024]
  pointwise [rs1024]

theorem rs384_at (v : FVec Ideal S256x384 .f32) (i : Fin 256) : rs384 v (ix2 i 0)
    = Ideal.rsqrt (Ideal.div (∑ x, v (ix2 i x) * v (ix2 i x)) (Ideal.ofBits .f32 1136656384#32) + Ideal.ofBits .f32 897988541#32) := by
  rw [← mean_384]
  pointwise [rs384]

theorem rs3584_at (v : Vec Ideal S256x3584 .bf16) (i : Fin 256) : k0_pay1 v (ix2 i 0)
    = Ideal.rsqrt (Ideal.div (∑ x, (v (ix2 i x) : EReal) * v (ix2 i x)) (Ideal.ofBits .f32 1163919360#32) + Ideal.ofBits .f32 897988541#32) := by
  rw [← mean_3584]
  pointwise [k0_pay1]

section

variable {M N : ℕ} {g : Rdr M N EReal} {f : Mat M N}

theorem blk_arr (h : Reads g (Arr f)) {r c H W : ℕ} (hr : r + H ≤ M) (hc : c + W ≤ N) (i : Fin H) (l : Fin W) :
    blk g hr hc (ix2 i l) = f ⟨r + i.val, by omega⟩ ⟨c + l.val, by omega⟩ := blk_ix2 h hr hc i l

theorem blk_row (h : Reads g (Arr f)) {c W : ℕ} (hr : 0 + M ≤ M) (hc : c + W ≤ N) (i : Fin M) (l : Fin W) :
    blk g hr hc (ix2 i l) = f i ⟨c + l.val, by omega⟩ := by
  rw [blk_arr h]
  congr 1
  exact Fin.ext (Nat.zero_add _)

theorem blk_one (h : Reads g (Arr f)) {r c : ℕ} (hr : r + 1 ≤ M) (hc : c + 1 ≤ N) (hp) :
    blk (H := 1) (W := 1) g hr hc (Shape.Idx.first hp) = f ⟨r, hr⟩ ⟨c, hc⟩ := by
  have e : (Shape.Idx.first hp : (⟨2, ![1, 1]⟩ : Shape).Idx) = ix2 0 0 := by
    funext a
    match a with
    | ⟨0, _⟩ => exact Subsingleton.elim (α := Fin 1) _ _
    | ⟨1, _⟩ => exact Subsingleton.elim (α := Fin 1) _ _
  rw [e, blk_arr h]
  rfl

end

theorem xV_read {X : Rdr 256 3584 EReal} {G : Rdr 1 3584 EReal} {x : Mat 256 3584} {g : Mat 1 3584} (hX : Reads X (Arr x)) (hG : Reads G (Arr g))
    (b : Fin 28) (i : Fin 256) (l : Fin 128) :
    xV (F := Ideal) X G b (ix2 i l) = rms 1163919360#32 x (g 0) i ⟨128 * b.val + l.val, by omega⟩ := by
  have e1 : ∀ j : Fin 3584, blk X (r := 0) (c := 0) (H := 256) (W := 3584) (by omega) (by omega) (ix2 i j) = x i j := fun j => by
    rw [blk_row hX]; congr 1; exact Fin.ext (Nat.zero_add _)
  have e2 : (extf .f32 (shapeCast S256x128 (blk X (r := 0) (c := 128 * b.val) (H := 256) (W := 128) (by omega) (by omega) : Vec Ideal S256x128 .bf16)
      shapeCasts_S256x128_S256x128) bitsLt_bf16_f32 : FVec Ideal S256x128 .f32) (ix2 i l) = x i ⟨128 * b.val + l.val, by omega⟩ := by
    pointwise []
    rw [blk_row hX]
  have e3 : blk G (r := 0) (c := 128 * b.val) (H := 1) (W := 128) (by omega) (by omega) (ix2 0 l) = g 0 ⟨128 * b.val + l.val, by omega⟩ :=
    blk_row hG _ _ _ _
  unfold xV rms
  rw [qNorm_at, rs3584_at, e2, e3]
  simp only [e1]

theorem cqV_read {C : Rdr 256 1024 EReal} {G : Rdr 1 1024 EReal} {x : Mat 256 1024} {g : Mat 1 1024} (hX : Reads C (Arr x)) (hG : Reads G (Arr g))
    (b : Fin 8) (i : Fin 256) (l : Fin 128) :
    cqV (F := Ideal) C G b (ix2 i l) = rms 1149239296#32 x (g 0) i ⟨128 * b.val + l.val, by omega⟩ := by
  have e1 : ∀ j : Fin 1024, blk C (r := 0) (c := 0) (H := 256) (W := 1024) (by omega) (by omega) (ix2 i j) = x i j := fun j => by
    rw [blk_row hX]; congr 1; exact Fin.ext (Nat.zero_add _)
  have e2 : blk C (r := 0) (c := 128 * b.val) (H := 256) (W := 128) (by omega) (by omega) (ix2 i l) = x i ⟨128 * b.val + l.val, by omega⟩ :=
    blk_row hX _ _ _ _
  have e3 : blk G (r := 0) (c := 128 * b.val) (H := 1) (W := 128) (by omega) (by omega) (ix2 0 l) = g 0 ⟨128 * b.val + l.val, by omega⟩ :=
    blk_row hG _ _ _ _
  unfold cqV rms
  rw [qNorm_at, rs1024_at, e2, e3]
  simp only [e1]

theorem kvV_read {C : Rdr 256 416 EReal} {G : Rdr 1 384 EReal} {x : Mat 256 416} {g : Mat 1 384} (hX : Reads C (Arr x)) (hG : Reads G (Arr g))
    (b : Fin 3) (i : Fin 256) (l : Fin 128) :
    kvV (F := Ideal) C G b (ix2 i l)
      = rms 1136656384#32 (fun i (j : Fin 384) => x i ⟨j.val, by omega⟩) (g 0) i ⟨128 * b.val + l.val, by omega⟩ := by
  have e1 : ∀ j : Fin 384, blk C (r := 0) (c := 0) (H := 256) (W := 384) (by omega) (by omega) (ix2 i j) = x i ⟨j.val, by omega⟩ := fun j => by
    rw [blk_row hX]; congr 1; exact Fin.ext (Nat.zero_add _)
  have e2 : blk (colsRdr 384 (by omega) C) (r := 0) (c := 128 * b.val) (H := 256) (W := 128) (by omega) (by omega) (ix2 i l)
      = x i ⟨128 * b.val + l.val, by omega⟩ :=
    blk_row (f := fun i (j : Fin 384) => x i ⟨j.val, by omega⟩) (reads_cols (by omega) hX) _ _ _ _
  have e3 : blk G (r := 0) (c := 128 * b.val) (H := 1) (W := 128) (by omega) (by omega) (ix2 0 l) = g 0 ⟨128 * b.val + l.val, by omega⟩ :=
    blk_row hG _ _ _ _
  unfold kvV rms
  rw [qNorm_at, rs384_at, e2, e3]
  simp only [e1]

theorem oV_read {C : Rdr 256 3840 EReal} {x : Mat 256 3840} (hX : Reads C (Arr x)) (b : Fin 30) (i : Fin 256) (l : Fin 128) :
    oV (F := Ideal) C b (ix2 i l) = x i ⟨128 * b.val + l.val, by omega⟩ := blk_row hX _ _ _ _

end Cert.KernelIdeal.Gen

end
-- ==== Proof.KMore.lean ====
/-
  The kernel's products, its rotary turn and its attention read at an index, over the extended reals.
-/
module

public import proofs.«01_k».proof.Proof.KVals

@[expose] public section

noncomputable section

namespace Cert.KernelIdeal.Gen

open Cert.Mla Idealize.ShloMosaic Idealize.ShloMosaic.TcCoe

theorem stack_rows {α : Type} {nk W K : ℕ} (hK : K ≤ 128 * nk) (hc : Shape.Concatenates (List.replicate nk (⟨2, ![128, W]⟩ : Shape)) ⟨2, ![K, W]⟩ 0)
    (f : Fin nk → ((⟨2, ![128, W]⟩ : Shape).Idx → α)) (x : Fin K) (l : Fin W) :
    stack nk ⟨2, ![128, W]⟩ ⟨2, ![K, W]⟩ 0 hc f (ix2 x l) = f ⟨x.val / 128, divLt hK x⟩ (ix2 ⟨x.val % 128, Nat.mod_lt _ (by omega)⟩ l) := by
  refine concatenate_ofFn_apply (s₁ := ⟨2, ![128, W]⟩) (t := ⟨2, ![K, W]⟩) 0 f _ rfl 128 rfl (ix2 x l) ⟨x.val / 128, divLt hK x⟩ rfl
    (ix2 ⟨x.val % 128, Nat.mod_lt _ (by omega)⟩ l) rfl (fun b hb => ?_)
  match b with
  | ⟨0, _⟩ => exact absurd rfl hb
  | ⟨1, _⟩ => rfl

theorem stack_cols {α : Type} {n : ℕ} (hc : Shape.Concatenates (List.replicate n (⟨2, ![256, 1]⟩ : Shape)) ⟨2, ![256, n]⟩ 1)
    (f : Fin n → ((⟨2, ![256, 1]⟩ : Shape).Idx → α)) (i : Fin 256) (b : Fin n) :
    stack n ⟨2, ![256, 1]⟩ ⟨2, ![256, n]⟩ 1 hc f (ix2 i b) = f b (ix2 i 0) := by
  refine concatenate_ofFn_apply (s₁ := ⟨2, ![256, 1]⟩) (t := ⟨2, ![256, n]⟩) 1 f _ rfl 1 rfl (ix2 i b) b (Nat.div_one _)
    (ix2 i 0) (Nat.mod_one _).symm (fun a ha => ?_)
  match a with
  | ⟨0, _⟩ => rfl
  | ⟨1, _⟩ => exact absurd rfl ha

section

variable {K N nk nb nn : ℕ} (hK : 128 * nk = K) (hN : 256 * nn ≤ N) (hb : 2 * nn ≤ nb)
  {W : Rdr K N EReal} {S : Rdr nk nb EReal} {w : Mat K N} {s : Mat nk nb} (hW : Reads W (Arr w)) (hS : Reads S (Arr s))

include hW hS

theorem wRow_read (n : Fin nn) (kb : Fin nk) (i : Fin 128) (l : Fin 256) : wRow (F := Ideal) hK hN hb W S n kb (ix2 i l)
    = w ⟨128 * kb.val + i.val, by omega⟩ ⟨256 * n.val + l.val, by omega⟩ * s kb ⟨(256 * n.val + l.val) / 128, by omega⟩ := by
  unfold wRow
  pointwise [wBlk]
  split
  · rename_i h
    rw [blk_arr hW, blk_one hS]
    congr 2
    exact Fin.ext (by show 2 * n.val = (256 * n.val + l.val) / 128; omega)
  · rename_i h
    exact congrArg₂ (· * ·) ((blk_arr hW _ _ _ _).trans (congrArg (w _) (Fin.ext (by show 256 * n.val + 128 + (l.val - 128) = 256 * n.val + l.val; omega))))
      ((blk_one hS _ _ _).trans (congrArg (s _) (Fin.ext (by show 2 * n.val + 1 = (256 * n.val + l.val) / 128; omega))))

theorem slab_read (hc : Shape.Concatenates (List.replicate nk S128x256) ⟨2, ![K, 256]⟩ 0) (n : Fin nn) (x : Fin K) (l : Fin 256) :
    stack nk S128x256 ⟨2, ![K, 256]⟩ 0 hc (wRow (F := Ideal) hK hN hb W S n) (ix2 x l)
      = w x ⟨256 * n.val + l.val, by omega⟩ * s ⟨x.val / 128, divLt hK.ge x⟩ ⟨(256 * n.val + l.val) / 128, by omega⟩ := by
  refine (stack_rows hK.ge hc _ x l).trans ?_
  rw [wRow_read hK hN hb hW hS]
  congr 2
  exact Fin.ext (Nat.div_add_mod _ _)

end

theorem wRow160_read {W : Rdr 3584 416 EReal} {S : Rdr 28 4 EReal} {w : Mat 3584 416} {s : Mat 28 4} (hW : Reads W (Arr w)) (hS : Reads S (Arr s))
    (kb : Fin 28) (i : Fin 128) (l : Fin 160) : wRow160 (F := Ideal) W S kb (ix2 i l)
    = w ⟨128 * kb.val + i.val, by omega⟩ ⟨256 + l.val, by omega⟩ * s kb ⟨(256 + l.val) / 128, by omega⟩ := by
  unfold wRow160
  pointwise [wBlk, wBlk32]
  split
  · rename_i h
    rw [blk_arr hW, blk_one hS]
    congr 2
    exact Fin.ext (by show 2 = (256 + l.val) / 128; omega)
  · rename_i h
    exact congrArg₂ (· * ·) ((blk_arr hW _ _ _ _).trans (congrArg (w _) (Fin.ext (by show 384 + (l.val - 128) = 256 + l.val; omega))))
      ((blk_one hS _ _ _).trans (congrArg (s _) (Fin.ext (by show 3 = (256 + l.val) / 128; omega))))

theorem cqP_read {A : FVec Ideal S256x3584 .bf16} {a : Mat 256 3584} (hA : ∀ i x, A (ix2 i x) = a i x) {W : Rdr 3584 1024 EReal} {S : Rdr 28 8 EReal}
    {w : Mat 3584 1024} {s : Mat 28 8} (hW : Reads W (Arr w)) (hS : Reads S (Arr s)) (n : Fin 4) (i : Fin 256) (l : Fin 256) :
    cqP (F := Ideal) A W S n (ix2 i l) = proj (by omega) (by omega) a w s i ⟨256 * n.val + l.val, by omega⟩ := by
  have e : ∀ x, stack 28 S128x256 S3584x256 0 cat28 (wRow (F := Ideal) (nn := 4) rfl (by omega) (by omega) W S n) (ix2 x l) = _ :=
    fun x => slab_read (nn := 4) rfl (by omega) (by omega) hW hS cat28 n x l
  unfold cqP proj
  pointwise []
  simp only [hA, e]

theorem kvP_read {A : FVec Ideal S256x3584 .bf16} {a : Mat 256 3584} (hA : ∀ i x, A (ix2 i x) = a i x) {W : Rdr 3584 416 EReal} {S : Rdr 28 4 EReal}
    {w : Mat 3584 416} {s : Mat 28 4} (hW : Reads W (Arr w)) (hS : Reads S (Arr s)) (i : Fin 256) (l : Fin 256) :
    kvP (F := Ideal) A W S (ix2 i l) = proj (by omega) (by omega) a w s i ⟨l.val, by omega⟩ := by
  have e : ∀ x, stack 28 S128x256 S3584x256 0 cat28 (wRow (F := Ideal) (nn := 1) rfl (by omega) (by omega) W S 0) (ix2 x l) = _ :=
    fun x => slab_read (nn := 1) rfl (by omega) (by omega) hW hS cat28 0 x l
  unfold kvP proj
  pointwise []
  simp only [hA, e, Fin.val_zero, Nat.mul_zero, Nat.zero_add]

theorem kvP160_read {A : FVec Ideal S256x3584 .bf16} {a : Mat 256 3584} (hA : ∀ i x, A (ix2 i x) = a i x) {W : Rdr 3584 416 EReal}
    {S : Rdr 28 4 EReal} {w : Mat 3584 416} {s : Mat 28 4} (hW : Reads W (Arr w)) (hS : Reads S (Arr s)) (i : Fin 256) (l : Fin 160) :
    kvP160 (F := Ideal) A W S (ix2 i l) = proj (by omega) (by omega) a w s i ⟨256 + l.val, by omega⟩ := by
  have e : ∀ x : Fin 3584, stack 28 S128x160 S3584x160 0 cat28' (wRow160 (F := Ideal) W S) (ix2 x l)
      = w x ⟨256 + l.val, by omega⟩ * s ⟨x.val / 128, by omega⟩ ⟨(256 + l.val) / 128, by omega⟩ := fun x => by
    refine (stack_rows (by omega) cat28' _ x l).trans ?_
    rw [wRow160_read hW hS]
    congr 2
    exact Fin.ext (Nat.div_add_mod _ _)
  unfold kvP160 proj
  pointwise []
  simp only [hA, e]

theorem qP_read {A : FVec Ideal S256x1024 .bf16} {a : Mat 256 1024} (hA : ∀ i x, A (ix2 i x) = a i x) {W : Rdr 1024 3840 EReal} {S : Rdr 8 30 EReal}
    {w : Mat 1024 3840} {s : Mat 8 30} (hW : Reads W (Arr w)) (hS : Reads S (Arr s)) (n : Fin 15) (i : Fin 256) (l : Fin 256) :
    qP (F := Ideal) A W S n (ix2 i l) = proj (by omega) (by omega) a w s i ⟨256 * n.val + l.val, by omega⟩ := by
  have e : ∀ x, stack 8 S128x256 S1024x256 0 cat8 (wRow (F := Ideal) (nn := 15) rfl (by omega) (by omega) W S n) (ix2 x l) = _ :=
    fun x => slab_read (nn := 15) rfl (by omega) (by omega) hW hS cat8 n x l
  unfold qP proj
  pointwise []
  simp only [hA, e]

theorem kvbP_read {A : FVec Ideal S256x384 .bf16} {a : Mat 256 384} (hA : ∀ i x, A (ix2 i x) = a i x) {W : Rdr 384 6400 EReal} {S : Rdr 3 50 EReal}
    {w : Mat 384 6400} {s : Mat 3 50} (hW : Reads W (Arr w)) (hS : Reads S (Arr s)) (n : Fin 25) (i : Fin 256) (l : Fin 256) :
    kvbP (F := Ideal) A W S n (ix2 i l) = proj (by omega) (by omega) a w s i ⟨256 * n.val + l.val, by omega⟩ := by
  have e : ∀ x, stack 3 S128x256 S384x256 0 cat3 (wRow (F := Ideal) (nn := 25) rfl (by omega) (by omega) W S n) (ix2 x l) = _ :=
    fun x => slab_read (nn := 25) rfl (by omega) (by omega) hW hS cat3 n x l
  unfold kvbP proj
  pointwise []
  simp only [hA, e]

theorem yP_read {X : Rdr 256 3584 EReal} {x : Mat 256 3584} (hX : Reads X (Arr x)) {A : FVec Ideal S256x3840 .bf16} {a : Mat 256 3840}
    (hA : ∀ i x, A (ix2 i x) = a i x) {W : Rdr 3840 3584 EReal} {S : Rdr 30 28 EReal}
    {w : Mat 3840 3584} {s : Mat 30 28} (hW : Reads W (Arr w)) (hS : Reads S (Arr s)) (n : Fin 14) (i : Fin 256) (l : Fin 256) :
    yP (F := Ideal) X A W S n (ix2 i l)
      = x i ⟨256 * n.val + l.val, by omega⟩ + proj (by omega) (by omega) a w s i ⟨256 * n.val + l.val, by omega⟩ := by
  have e : ∀ x, stack 30 S128x256 S3840x256 0 cat30 (wRow (F := Ideal) (nn := 14) rfl (by omega) (by omega) W S n) (ix2 x l) = _ :=
    fun x => slab_read (nn := 14) rfl (by omega) (by omega) hW hS cat30 n x l
  have e2 : blk X (r := 0) (c := 256 * n.val) (H := 256) (W := 256) (by omega) (by omega) (ix2 i l) = x i ⟨256 * n.val + l.val, by omega⟩ :=
    blk_row hX _ _ _ _
  unfold yP proj
  pointwise []
  simp only [hA, e]
  rw [e2]

/-- Whether a column is the first of its pair, as the kernel asks it. -/
def evenBit (l : ℕ) : BitVec 1 :=
  IntOp.cmpi CmpIPredicate.eq
    (Scalar.select
      (IntOp.andi
        (IntOp.xori (IntOp.cmpi CmpIPredicate.slt (IntOp.remsi ArithUnit.vector (BitVec.ofNat 32 l) 2#32) 0#32)
          (Scalar.cmpi CmpIPredicate.slt 2#32 0#32))
        (IntOp.cmpi CmpIPredicate.ne (IntOp.remsi ArithUnit.vector (BitVec.ofNat 32 l) 2#32) 0#32))
      (IntOp.addi (IntOp.remsi ArithUnit.vector (BitVec.ofNat 32 l) 2#32) 2#32)
      (IntOp.remsi ArithUnit.vector (BitVec.ofNat 32 l) 2#32))
    0#32

theorem evenBit_eq : ∀ l : Fin 32, evenBit l.val = if l.val % 2 < 1 then 1#1 else 0#1 := by decide +kernel

theorem rotV_at (v cos sin : Vec Ideal S256x32 .f32) (i : Fin 256) (l : Fin 32) : rotV v cos sin (ix2 i l)
    = (v (ix2 i l) : EReal) * cos (ix2 i l) + Scalar.select (evenBit l.val)
        (if h : l.val < 31 then v (ix2 i ⟨1 + l.val, by omega⟩) else v (ix2 i ⟨l.val - 31, by omega⟩))
        (if h : l.val < 1 then v (ix2 i ⟨31 + l.val, by omega⟩) else v (ix2 i ⟨l.val - 1, by omega⟩)) * sin (ix2 i l) := by
  unfold evenBit
  pointwise [rotV, k0_pay855]

theorem rotV_read {v c2 s2 : Vec Ideal S256x32 .f32} {t : Mat 256 32} {cos sin : Mat 128 16} (hv : ∀ i l, v (ix2 i l) = t i l)
    (hc : ∀ (i : Fin 256) (l : Fin 32), c2 (ix2 i l) = cos ⟨i.val % 128, by omega⟩ ⟨l.val / 2, by omega⟩)
    (hs : ∀ (i : Fin 256) (l : Fin 32), s2 (ix2 i l) = if l.val % 2 < 1 then -(sin ⟨i.val % 128, by omega⟩ ⟨l.val / 2, by omega⟩ : EReal)
      else sin ⟨i.val % 128, by omega⟩ ⟨l.val / 2, by omega⟩)
    (i : Fin 256) (l : Fin 32) : rotV v c2 s2 (ix2 i l) = rot cos sin t i l := by
  rw [rotV_at, evenBit_eq, hc, hs]
  simp only [hv]
  unfold rot
  by_cases h : l.val % 2 < 1
  · rw [if_pos h, if_pos h, if_pos h, select_one, dif_pos (by omega), mul_neg, ← sub_eq_add_neg]
    have e1 : (⟨l.val / 2 * 2, by omega⟩ : Fin 32) = l := Fin.ext (by show l.val / 2 * 2 = l.val; omega)
    have e2 : (⟨l.val / 2 * 2 + 1, by omega⟩ : Fin 32) = ⟨1 + l.val, by omega⟩ := Fin.ext (by show l.val / 2 * 2 + 1 = 1 + l.val; omega)
    rw [e1, e2]
  · rw [if_neg h, if_neg h, if_neg h, select_zero, dif_neg (by omega), add_comm]
    have e1 : (⟨l.val / 2 * 2 + 1, by omega⟩ : Fin 32) = l := Fin.ext (by show l.val / 2 * 2 + 1 = l.val; omega)
    have e2 : (⟨l.val / 2 * 2, by omega⟩ : Fin 32) = ⟨l.val - 1, by omega⟩ := Fin.ext (by show l.val / 2 * 2 = l.val - 1; omega)
    rw [e1, e2]

theorem headS_at (kr qr : FVec Ideal S256x32 .bf16) (qn kn : FVec Ideal S256x64 .bf16) (b : Fin 2) (i : Fin 128) (l : Fin 128) :
    headS kr qr qn kn b (ix2 i l) = Scalar.select (IntOp.cmpi CmpIPredicate.sle (BitVec.ofNat 32 l.val) (BitVec.ofNat 32 i.val))
      ((∑ x, (qn (ix2 ⟨128 * b.val + i.val, by omega⟩ x) : EReal) * kn (ix2 ⟨128 * b.val + l.val, by omega⟩ x)
          + ∑ x, (qr (ix2 ⟨128 * b.val + i.val, by omega⟩ x) : EReal) * kr (ix2 ⟨128 * b.val + l.val, by omega⟩ x))
        * Ideal.ofBits .f32 1037108716#32) (Ideal.ofBits .f32 4286578688#32) := by
  pointwise [headS, maskV]

theorem headE_at (s : FVec Ideal S128x128 .f32) (i : Fin 128) (l : Fin 128) : headE s (ix2 i l)
    = Ideal.exp (s (ix2 i l) - Finset.univ.fold max (Ideal.ofBits .f32 4286578688#32) (fun x => s (ix2 i x))) := by
  pointwise [headE]

theorem headP_at (s : FVec Ideal S128x128 .f32) (v : FVec Ideal S256x96 .bf16) (b : Fin 2) (i : Fin 128) (l : Fin 96) : headP s v b (ix2 i l)
    = ∑ x, Ideal.div (s (ix2 i x)) (∑ x, s (ix2 i x)) * v (ix2 ⟨128 * b.val + x.val, by omega⟩ l) := by
  pointwise [headP]

theorem headV_read (A : Ins) {kr : FVec Ideal S256x32 .bf16} {Q : Rdr 256 3840 EReal} {KV : Rdr 256 6400 EReal} {c2 s2 : Vec Ideal S256x32 .f32}
    (hkr : ∀ i l, kr (ix2 i l) = A.kr i l) (hQ : Reads Q (Arr A.q)) (hKV : Reads KV (Arr A.kvb))
    (hc : ∀ (i : Fin 256) (l : Fin 32), c2 (ix2 i l) = A.cos ⟨i.val % 128, by omega⟩ ⟨l.val / 2, by omega⟩)
    (hs : ∀ (i : Fin 256) (l : Fin 32), s2 (ix2 i l) = if l.val % 2 < 1 then -(A.sin ⟨i.val % 128, by omega⟩ ⟨l.val / 2, by omega⟩ : EReal)
      else A.sin ⟨i.val % 128, by omega⟩ ⟨l.val / 2, by omega⟩)
    (b : Fin 2) (h : Fin 40) (i : Fin 128) (d : Fin 96) : headV (F := Ideal) kr Q KV c2 s2 b h (ix2 i d) = A.head b h i d := by
  have eq : ∀ (i : Fin 256) (x : Fin 64), (truncf .bf16 (blk Q (r := 0) (c := 96 * h.val) (H := 256) (W := 64) (by omega) (by omega) : Vec Ideal S256x64 .f32)
      bitsLt_bf16_f32 : FVec Ideal S256x64 .bf16) (ix2 i x) = A.q i ⟨96 * h.val + x.val, by omega⟩ := fun i x => by
    pointwise []
    exact blk_row hQ _ _ _ _
  have ek : ∀ (i : Fin 256) (x : Fin 64), blk KV (r := 0) (c := 160 * h.val) (H := 256) (W := 64) (by omega) (by omega) (ix2 i x)
      = A.kvb i ⟨160 * h.val + x.val, by omega⟩ := fun i x => blk_row hKV _ _ _ _
  have ev : ∀ (i : Fin 256) (x : Fin 96), blk KV (r := 0) (c := 160 * h.val + 64) (H := 256) (W := 96) (by omega) (by omega) (ix2 i x)
      = A.kvb i ⟨160 * h.val + 64 + x.val, by omega⟩ := fun i x => blk_row hKV _ _ _ _
  have er : ∀ (i : Fin 256) (l : Fin 32), rotV (F := Ideal) (blk Q (r := 0) (c := 96 * h.val + 64) (H := 256) (W := 32) (by omega) (by omega)) c2 s2 (ix2 i l)
      = A.qr h i l := fun i l => rotV_read (fun i l => blk_row hQ _ _ _ _) hc hs i l
  unfold headV
  rw [headP_at]
  simp only [headE_at, headS_at]
  simp only [er, eq, ek, ev, hkr]
  rfl

end Cert.KernelIdeal.Gen

end
-- ==== Proof.KRun.lean ====
/-
  What the kernel leaves in each of its buffers and results, over the extended reals.
-/
module

public import proofs.«01_k».proof.Proof.KLists
public import proofs.«01_k».proof.Proof.KMore

@[expose] public section

noncomputable section

namespace Cert.KernelIdeal.Gen

open Cert.Mla Idealize.ShloMosaic Idealize.ShloMosaic.TcCoe Idealize.ShloMosaic.View

theorem whole_at {α : Type} {M N : ℕ} {g : Rdr M N α} {f : Fin M → Fin N → α} (h : Reads g (Arr f)) (hr : 0 + M ≤ M) (hc : 0 + N ≤ N)
    (i : Fin M) (x : Fin N) : blk g hr hc (ix2 i x) = f i x := by
  rw [blk_ix2 h]
  show f _ _ = f i x
  congr 1 <;> exact Fin.ext (Nat.zero_add _)

theorem reads_cov {e : EltTy} {M N : ℕ} {sig : RefSig} {κ : Kind} {sp : Space} {v : View sig κ sp (⟨2, ![M, N]⟩ : Shape) e}
    {L : List (Piece (Elt Ideal) (⟨2, ![M, N]⟩ : Shape) e)} {f : Fin M → Fin N → Elt Ideal e} (h : canon L = Arr f) :
    Reads (fun B => v.readCov L B) (Arr f) := h ▸ reads_readCov v L

theorem reads_in {e : EltTy} {M N : ℕ} {sig : RefSig} {κ : Kind} {sp : Space} {m : Memref sig κ sp (⟨2, ![M, N]⟩ : Shape) e} {hm : m.IsWhole}
    {X : (⟨2, ![M, N]⟩ : Shape).Idx → Elt Ideal e} {f : Fin M → Fin N → Elt Ideal e} (h : X = Arr f) :
    Reads (fun B => View.readAt (Elt Ideal) m.view B (hm.unread X)) (Arr f) := h ▸ reads_readAt hm X

theorem canon_to2 {e : EltTy} {H W m n M N : ℕ} {hM : H * m = M} {hN : W * n = N} {pay : Fin m → Fin n → (⟨2, ![H, W]⟩ : Shape).Idx → Elt Ideal e}
    (f : Fin M → Fin N → Elt Ideal e)
    (h : ∀ (p : Fin m) (q : Fin n) (i : Fin H) (l : Fin W) (h1 : H * p.val + i.val < M) (h2 : W * q.val + l.val < N),
      pay p q (ix2 i l) = f ⟨H * p.val + i.val, h1⟩ ⟨W * q.val + l.val, h2⟩) :
    canon (tiles H W m n hM hN pay) = Arr f := by
  funext y
  obtain ⟨i, j, rfl⟩ : ∃ (i : Fin M) (j : Fin N), y = ix2 i j := ⟨y 0, y 1, by
    funext b; match b with
    | ⟨0, _⟩ => rfl
    | ⟨1, _⟩ => rfl⟩
  have e1 : H * (i.val / H) + i.val % H = i.val := Nat.div_add_mod _ _
  have e2 : W * (j.val / W) + j.val % W = j.val := Nat.div_add_mod _ _
  rw [canon_tiles, h _ _ _ _ (e1.symm ▸ i.isLt) (e2.symm ▸ j.isLt)]
  show f _ _ = f i j
  congr 1 <;> exact Fin.ext (Nat.div_add_mod _ _)

theorem canon_to {e : EltTy} {W n M N : ℕ} {hM : M * 1 = M} {hN : W * n = N} {pay : Fin 1 → Fin n → (⟨2, ![M, W]⟩ : Shape).Idx → Elt Ideal e}
    (f : Fin M → Fin N → Elt Ideal e)
    (h : ∀ (q : Fin n) (i : Fin M) (l : Fin W) (h2 : W * q.val + l.val < N), pay 0 q (ix2 i l) = f i ⟨W * q.val + l.val, h2⟩) :
    canon (tiles M W 1 n hM hN pay) = Arr f := by
  refine canon_to2 f fun p q i l h1 h2 => ?_
  obtain rfl : p = 0 := Subsingleton.elim _ _
  rw [h q i l h2]
  congr 1
  exact Fin.ext (by show i.val = M * 0 + i.val; omega)

/-- The arguments hold the entries of `A`. -/
structure Given (A : Ins)
    (x0 : Vec Ideal S28x8 .f32)
    (x1 : Vec Ideal S8x30 .f32)
    (x2 : Vec Ideal S28x4 .f32)
    (x3 : Vec Ideal S3x50 .f32)
    (x4 : Vec Ideal S30x28 .f32)
    (x5 : Vec Ideal S256x3584 .bf16)
    (x6 : Vec Ideal S1x3584 .f32)
    (x7 : Vec Ideal S1x1024 .f32)
    (x8 : Vec Ideal S1x384 .f32)
    (x9 : Vec Ideal S3584x1024 .fp8e4m3)
    (x10 : Vec Ideal S1024x3840 .fp8e4m3)
    (x11 : Vec Ideal S3584x416 .fp8e4m3)
    (x12 : Vec Ideal S384x6400 .fp8e4m3)
    (x13 : Vec Ideal S3840x3584 .fp8e4m3)
    (x14 : Vec Ideal S256x32 .f32)
    (x15 : Vec Ideal S256x32 .f32) : Prop where
  h0 : x0 = Arr A.sqa
  h1 : x1 = Arr A.sqb
  h2 : x2 = Arr A.skva
  h3 : x3 = Arr A.skvb
  h4 : x4 = Arr A.so
  h5 : x5 = Arr A.x
  h6 : x6 = Arr fun _ => A.g1
  h7 : x7 = Arr fun _ => A.g2
  h8 : x8 = Arr fun _ => A.g3
  h9 : x9 = Arr A.wqa
  h10 : x10 = Arr A.wqb
  h11 : x11 = Arr A.wkva
  h12 : x12 = Arr A.wkvb
  h13 : x13 = Arr A.wo
  h14 : ∀ (i : Fin 256) (l : Fin 32), x14 (ix2 i l) = A.cos ⟨i.val % 128, by omega⟩ ⟨l.val / 2, by omega⟩
  h15 : ∀ (i : Fin 256) (l : Fin 32), x15 (ix2 i l) = if l.val % 2 < 1 then -(A.sin ⟨i.val % 128, by omega⟩ ⟨l.val / 2, by omega⟩ : EReal)
    else A.sin ⟨i.val % 128, by omega⟩ ⟨l.val / 2, by omega⟩

theorem arr_self {α : Type} {M N : ℕ} (X : (⟨2, ![M, N]⟩ : Shape).Idx → α) : X = Arr fun i l => X (ix2 i l) := by
  funext y
  show X y = X (ix2 (y 0) (y 1))
  congr 1
  funext b
  match b with
  | ⟨0, _⟩ => rfl
  | ⟨1, _⟩ => rfl

theorem one_col {m n : ℕ} (f : Mat m n) (z : Fin 1) (i : Fin m) (b : Fin n) (h : n * z.val + b.val < n) : f i b = f i ⟨n * z.val + b.val, h⟩ := by
  congr 1
  exact Fin.ext (by show b.val = n * z.val + b.val; rw [Subsingleton.elim z 0]; simp)

theorem _root_.Cert.Mla.Ins.o_at (A : Ins) (b : Fin 2) (h : Fin 40) (i : Fin 128) (l : Fin 96) (h1 : 128 * b.val + i.val < 256)
    (h2 : 96 * h.val + l.val < 3840) : A.o ⟨128 * b.val + i.val, h1⟩ ⟨96 * h.val + l.val, h2⟩ = A.head b h i l := by
  unfold Ins.o
  congr 1
  · exact Fin.ext (by show (128 * b.val + i.val) / 128 = b.val; omega)
  · exact Fin.ext (by show (96 * h.val + l.val) / 96 = h.val; omega)
  · exact Fin.ext (by show (128 * b.val + i.val) % 128 = i.val; omega)
  · exact Fin.ext (by show (96 * h.val + l.val) % 96 = l.val; omega)

variable {c : Dev nD} {A : Ins}
  {arg0 : Memref sig .tc .smem S28x8 .f32} {harg0 : arg0.IsWhole}
  {arg1 : Memref sig .tc .smem S8x30 .f32} {harg1 : arg1.IsWhole}
  {arg2 : Memref sig .tc .smem S28x4 .f32} {harg2 : arg2.IsWhole}
  {arg3 : Memref sig .tc .smem S3x50 .f32} {harg3 : arg3.IsWhole}
  {arg4 : Memref sig .tc .smem S30x28 .f32} {harg4 : arg4.IsWhole}
  {arg5 : Memref sig .tc .vmem S256x3584 .bf16} {harg5 : arg5.IsWhole}
  {arg6 : Memref sig .tc .vmem S1x3584 .f32} {harg6 : arg6.IsWhole}
  {arg7 : Memref sig .tc .vmem S1x1024 .f32} {harg7 : arg7.IsWhole}
  {arg8 : Memref sig .tc .vmem S1x384 .f32} {harg8 : arg8.IsWhole}
  {arg9 : Memref sig .tc .vmem S3584x1024 .fp8e4m3} {harg9 : arg9.IsWhole}
  {arg10 : Memref sig .tc .vmem S1024x3840 .fp8e4m3} {harg10 : arg10.IsWhole}
  {arg11 : Memref sig .tc .vmem S3584x416 .fp8e4m3} {harg11 : arg11.IsWhole}
  {arg12 : Memref sig .tc .vmem S384x6400 .fp8e4m3} {harg12 : arg12.IsWhole}
  {arg13 : Memref sig .tc .vmem S3840x3584 .fp8e4m3} {harg13 : arg13.IsWhole}
  {arg14 : Memref sig .tc .vmem S256x32 .f32} {harg14 : arg14.IsWhole}
  {arg15 : Memref sig .tc .vmem S256x32 .f32} {harg15 : arg15.IsWhole}
  {arg16 : Memref sig .tc .vmem S256x3584 .bf16} {harg16 : arg16.IsWhole}
  {arg17 : Memref sig .tc .vmem S256x3584 .fp8e4m3} {harg17 : arg17.IsWhole}
  {arg18 : Memref sig .tc .vmem S256x28 .f32} {harg18 : arg18.IsWhole}
  {arg19 : Memref sig .tc .vmem S256x1024 .fp8e4m3} {harg19 : arg19.IsWhole}
  {arg20 : Memref sig .tc .vmem S256x8 .f32} {harg20 : arg20.IsWhole}
  {arg21 : Memref sig .tc .vmem S256x384 .fp8e4m3} {harg21 : arg21.IsWhole}
  {arg22 : Memref sig .tc .vmem S256x3 .f32} {harg22 : arg22.IsWhole}
  {arg23 : Memref sig .tc .vmem S256x3840 .fp8e4m3} {harg23 : arg23.IsWhole}
  {arg24 : Memref sig .tc .vmem S256x30 .f32} {harg24 : arg24.IsWhole}
  {arg25 : Memref sig .tc .vmem S256x3584 .bf16} {harg25 : arg25.IsWhole}
  {arg26 : Memref sig .tc .vmem S256x1024 .f32} {harg26 : arg26.IsWhole}
  {arg27 : Memref sig .tc .vmem S256x1024 .bf16} {harg27 : arg27.IsWhole}
  {arg28 : Memref sig .tc .vmem S256x416 .f32} {harg28 : arg28.IsWhole}
  {arg29 : Memref sig .tc .vmem S256x384 .bf16} {harg29 : arg29.IsWhole}
  {arg30 : Memref sig .tc .vmem S256x3840 .f32} {harg30 : arg30.IsWhole}
  {arg31 : Memref sig .tc .vmem S256x6400 .bf16} {harg31 : arg31.IsWhole}
  {arg32 : Memref sig .tc .vmem S256x3840 .f32} {harg32 : arg32.IsWhole}
  {arg33 : Memref sig .tc .vmem S256x3840 .bf16} {harg33 : arg33.IsWhole}
  {x0 : Vec Ideal S28x8 .f32}
  {x1 : Vec Ideal S8x30 .f32}
  {x2 : Vec Ideal S28x4 .f32}
  {x3 : Vec Ideal S3x50 .f32}
  {x4 : Vec Ideal S30x28 .f32}
  {x5 : Vec Ideal S256x3584 .bf16}
  {x6 : Vec Ideal S1x3584 .f32}
  {x7 : Vec Ideal S1x1024 .f32}
  {x8 : Vec Ideal S1x384 .f32}
  {x9 : Vec Ideal S3584x1024 .fp8e4m3}
  {x10 : Vec Ideal S1024x3840 .fp8e4m3}
  {x11 : Vec Ideal S3584x416 .fp8e4m3}
  {x12 : Vec Ideal S384x6400 .fp8e4m3}
  {x13 : Vec Ideal S3840x3584 .fp8e4m3}
  {x14 : Vec Ideal S256x32 .f32}
  {x15 : Vec Ideal S256x32 .f32}
  (Z : Given A x0 x1 x2 x3 x4 x5 x6 x7 x8 x9 x10 x11 x12 x13 x14 x15)

include Z

theorem k_hs0 : canon (kernelRun0_A.sl.HS0_28 c arg5 harg5 arg6 harg6  x5 x6)
    = Arr A.xa := by
  rw [hs0_eq]
  exact canon_to _ fun b i l _ => qA_read (n := 28) rfl A.xn b _ (xV_read (reads_in Z.h5) (reads_in Z.h6) _) i l

theorem k_hs1 : canon (kernelRun0_A.sl.HS1_4 c arg0 harg0 arg5 harg5 arg6 harg6 arg9 harg9 arg25 x0 x5 x6 x9)
    = Arr A.cq := by
  rw [hs1_eq]
  exact canon_to _ fun n i l _ => cqP_read (fun i x => whole_at (reads_cov (k_hs0 Z)) _ _ i x) (reads_in Z.h9) (reads_in Z.h0) n i l

theorem k_hs2 : canon (kernelRun0_A.sl.HS2_8 c arg0 harg0 arg5 harg5 arg6 harg6 arg7 harg7 arg9 harg9 arg25 arg26 x0 x5 x6 x7 x9)
    = Arr A.cqa := by
  rw [hs2_eq]
  exact canon_to _ fun b i l _ => qA_read (n := 8) rfl A.cqn b _ (cqV_read (reads_cov (k_hs1 Z)) (reads_in Z.h7) _) i l

theorem k_hs3 : canon (kernelRun0_A.sl.HS3_2 c arg2 harg2 arg5 harg5 arg6 harg6 arg11 harg11 arg25 x2 x5 x6 x11)
    = Arr A.kv := by
  rw [hs3_eq]
  funext y
  refine canon_apply_of_pieces (Arr (α := Elt Ideal .f32) A.kv) _ (fun p hp => ?_) y ?_
  · rcases List.mem_cons.mp hp with rfl | hp
    · intro z
      obtain ⟨i, l, rfl⟩ : ∃ (i : Fin 256) (l : Fin 160), z = ix2 i l := ⟨z 0, z 1, by
        funext b; match b with
        | ⟨0, _⟩ => rfl
        | ⟨1, _⟩ => rfl⟩
      refine (kvP160_read (fun i x => whole_at (reads_cov (k_hs0 Z)) _ _ i x) (reads_in Z.h11) (reads_in Z.h2) i l).trans ?_
      show A.kv _ _ = A.kv _ _
      congr 1
      · exact Fin.ext (by show i.val = 0 + 1 * i.val; omega)
      · exact Fin.ext (by show 256 + l.val = 256 + 1 * l.val; omega)
    · obtain rfl := List.mem_singleton.mp hp
      intro z
      obtain ⟨i, l, rfl⟩ : ∃ (i : Fin 256) (l : Fin 256), z = ix2 i l := ⟨z 0, z 1, by
        funext b; match b with
        | ⟨0, _⟩ => rfl
        | ⟨1, _⟩ => rfl⟩
      refine (kvP_read (fun i x => whole_at (reads_cov (k_hs0 Z)) _ _ i x) (reads_in Z.h11) (reads_in Z.h2) i l).trans ?_
      show A.kv _ _ = A.kv _ _
      congr 1
      · exact Fin.ext (by show i.val = 0 + 1 * i.val; omega)
      · exact Fin.ext (by show l.val = 0 + 1 * l.val; omega)
  · have h0 : (y 0).val < 256 := (y 0).isLt
    have h1 : (y 1).val < 416 := (y 1).isLt
    by_cases h : 256 ≤ (y 1).val
    · refine ⟨_, List.mem_cons_self, ?_⟩
      rw [Rect.mem_set_unit]
      intro a
      match a with
      | ⟨0, _⟩ => show 0 ≤ (y 0).val ∧ (y 0).val < 0 + 256; omega
      | ⟨1, _⟩ => show 256 ≤ (y 1).val ∧ (y 1).val < 256 + 160; omega
    · refine ⟨_, List.mem_cons_of_mem _ (List.mem_singleton.mpr rfl), ?_⟩
      rw [Rect.mem_set_unit]
      intro a
      match a with
      | ⟨0, _⟩ => show 0 ≤ (y 0).val ∧ (y 0).val < 0 + 256; omega
      | ⟨1, _⟩ => show 0 ≤ (y 1).val ∧ (y 1).val < 0 + 256; omega

theorem k_hs4 : canon (kernelRun0_A.sl.HS4_3 c arg2 harg2 arg5 harg5 arg6 harg6 arg8 harg8 arg11 harg11 arg25 arg28 x2 x5 x6 x8 x11)
    = Arr A.kva := by
  rw [hs4_eq]
  exact canon_to _ fun b i l _ => qA_read (n := 3) rfl A.kvn b _ (kvV_read (reads_cov (k_hs3 Z)) (reads_in Z.h8) _) i l

theorem k_hs5 : canon (kernelRun0_A.sl.HS5_15 c arg0 harg0 arg1 harg1 arg5 harg5 arg6 harg6 arg7 harg7 arg9 harg9 arg10 harg10 arg25 arg26
      arg27 x0 x1 x5 x6 x7 x9 x10)
    = Arr A.q := by
  rw [hs5_eq]
  exact canon_to _ fun n i l _ => qP_read (fun i x => whole_at (reads_cov (k_hs2 Z)) _ _ i x) (reads_in Z.h10) (reads_in Z.h1) n i l

theorem k_hs6 : canon (kernelRun0_A.sl.HS6_25 c arg2 harg2 arg3 harg3 arg5 harg5 arg6 harg6 arg8 harg8 arg11 harg11 arg12 harg12 arg25
      arg28 arg29 x2 x3 x5 x6 x8 x11 x12)
    = Arr A.kvb := by
  rw [hs6_eq]
  exact canon_to _ fun n i l _ => kvbP_read (fun i x => whole_at (reads_cov (k_hs4 Z)) _ _ i x) (reads_in Z.h12) (reads_in Z.h3) n i l

theorem k_hs7 : canon (kernelRun0_A.sl.HS7_80 c arg0 harg0 arg1 harg1 arg2 harg2 arg3 harg3 arg5 harg5 arg6 harg6 arg7 harg7 arg8 harg8
      arg9 harg9 arg10 harg10 arg11 harg11 arg12 harg12 arg14 harg14 arg15 harg15 arg25 arg26 arg27 arg28 arg29 arg30 arg31 x0 x1 x2 x3 x5
      x6 x7 x8 x9 x10 x11 x12 x14 x15)
    = Arr A.o := by
  rw [hs7_eq]
  have hc : ∀ (i : Fin 256) (l : Fin 32), (blk (fun B => View.readAt (Elt Ideal) arg14.view B (harg14.unread x14)) (r := 0) (c := 0) (H :=
      256) (W := 32) (by omega) (by omega)) (ix2 i l) = A.cos ⟨i.val % 128, by omega⟩ ⟨l.val / 2, by omega⟩ :=
    fun i l => (whole_at (f := fun i l => x14 (ix2 i l)) (reads_in (arr_self _)) _ _ i l).trans (Z.h14 i l)
  have hs : ∀ (i : Fin 256) (l : Fin 32), (blk (fun B => View.readAt (Elt Ideal) arg15.view B (harg15.unread x15)) (r := 0) (c := 0) (H :=
      256) (W := 32) (by omega) (by omega)) (ix2 i l) = if l.val % 2 < 1 then
      -(A.sin ⟨i.val % 128, by omega⟩ ⟨l.val / 2, by omega⟩ : EReal) else A.sin ⟨i.val % 128, by omega⟩ ⟨l.val / 2, by omega⟩ :=
    fun i l => (whole_at (f := fun i l => x15 (ix2 i l)) (reads_in (arr_self _)) _ _ i l).trans (Z.h15 i l)
  refine canon_to2 _ fun b h i l h1 h2 => ?_
  refine (headV_read A (fun i l => rotV_read (fun i l => blk_row (reads_cov (k_hs3 Z)) _ _ i l) hc hs i l) (reads_cov (k_hs5 Z)) (reads_cov
      (k_hs6 Z)) hc hs b h i l).trans ?_
  exact (A.o_at b h i l _ _).symm

theorem k_hs8 : canon (kernelRun0_A.sl.HS8_30 c arg0 harg0 arg1 harg1 arg2 harg2 arg3 harg3 arg5 harg5 arg6 harg6 arg7 harg7 arg8 harg8
      arg9 harg9 arg10 harg10 arg11 harg11 arg12 harg12 arg14 harg14 arg15 harg15 arg25 arg26 arg27 arg28 arg29 arg30 arg31 arg32 x0 x1 x2
      x3 x5 x6 x7 x8 x9 x10 x11 x12 x14 x15)
    = Arr A.oa := by
  rw [hs8_eq]
  exact canon_to _ fun b i l _ => qA_read (n := 30) rfl A.o b _ (oV_read (reads_cov (k_hs7 Z)) _) i l

theorem k_o16 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).1
    = Arr A.y := by
  rw [o16_eq]
  exact canon_to _ fun n i l _ => yP_read (reads_in Z.h5) (fun i x => whole_at (reads_cov (k_hs8 Z)) _ _ i x) (reads_in Z.h13) (reads_in
      Z.h4) n i l

theorem k_o17 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.1
    = Arr (codeOf (n := 28) rfl A.xn) := by
  rw [o17_eq]
  exact canon_to _ fun b i l _ => qC_read (n := 28) rfl A.xn b _ (xV_read (reads_in Z.h5) (reads_in Z.h6) _) i l

theorem k_o18 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.1
    = Arr (scaleOf (n := 28) rfl A.xn) := by
  rw [o18_eq]
  refine canon_to _ fun z i b _ => (stack_cols (n := 28) side28 _ i b).trans ?_
  refine (qS_read (n := 28) rfl A.xn b _ (xV_read (reads_in Z.h5) (reads_in Z.h6) _) i).trans ?_
  exact one_col (n := 28) (scaleOf (n := 28) rfl A.xn) z i b _

theorem k_o19 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.1
    = Arr (codeOf (n := 8) rfl A.cqn) := by
  rw [o19_eq]
  exact canon_to _ fun b i l _ => qC_read (n := 8) rfl A.cqn b _ (cqV_read (reads_cov (k_hs1 Z)) (reads_in Z.h7) _) i l

theorem k_o20 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.1
    = Arr (scaleOf (n := 8) rfl A.cqn) := by
  rw [o20_eq]
  refine canon_to _ fun z i b _ => (stack_cols (n := 8) side8 _ i b).trans ?_
  refine (qS_read (n := 8) rfl A.cqn b _ (cqV_read (reads_cov (k_hs1 Z)) (reads_in Z.h7) _) i).trans ?_
  exact one_col (n := 8) (scaleOf (n := 8) rfl A.cqn) z i b _

theorem k_o21 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.1
    = Arr (codeOf (n := 3) rfl A.kvn) := by
  rw [o21_eq]
  exact canon_to _ fun b i l _ => qC_read (n := 3) rfl A.kvn b _ (kvV_read (reads_cov (k_hs3 Z)) (reads_in Z.h8) _) i l

theorem k_o22 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.1
    = Arr (scaleOf (n := 3) rfl A.kvn) := by
  rw [o22_eq]
  refine canon_to _ fun z i b _ => (stack_cols (n := 3) side3 _ i b).trans ?_
  refine (qS_read (n := 3) rfl A.kvn b _ (kvV_read (reads_cov (k_hs3 Z)) (reads_in Z.h8) _) i).trans ?_
  exact one_col (n := 3) (scaleOf (n := 3) rfl A.kvn) z i b _

theorem k_o23 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.2.1
    = Arr (codeOf (n := 30) rfl A.o) := by
  rw [o23_eq]
  exact canon_to _ fun b i l _ => qC_read (n := 30) rfl A.o b _ (oV_read (reads_cov (k_hs7 Z)) _) i l

theorem k_o24 : canon (kernelRun0_A c arg0 harg0 arg1 harg1 arg2 harg2 arg3 harg3 arg4 harg4 arg5 harg5 arg6 harg6 arg7 harg7 arg8 harg8
      arg9 harg9 arg10 harg10 arg11 harg11 arg12 harg12 arg13 harg13 arg14 harg14 arg15 harg15 arg16 harg16 arg17 harg17 arg18 harg18 arg19
      harg19 arg20 harg20 arg21 harg21 arg22 harg22 arg23 harg23 arg24 harg24 arg25 harg25 arg26 harg26 arg27 harg27 arg28 harg28 arg29
      harg29 arg30 harg30 arg31 harg31 arg32 harg32 arg33 harg33 x0 x1 x2 x3 x4 x5 x6 x7 x8 x9 x10 x11 x12 x13 x14 x15).2.2.2.2.2.2.2.2.1
    = Arr (scaleOf (n := 30) rfl A.o) := by
  rw [o24_eq]
  refine canon_to _ fun z i b _ => (stack_cols (n := 30) side30 _ i b).trans ?_
  refine (qS_read (n := 30) rfl A.o b _ (oV_read (reads_cov (k_hs7 Z)) _) i).trans ?_
  exact one_col (n := 30) (scaleOf (n := 30) rfl A.o) z i b _

end Cert.KernelIdeal.Gen

end
-- ==== Proof.Args.lean ====
/-
  The values both programs compute with, from the arguments; and the sign bit of a float.
-/
module

public import proofs.«01_k».proof.Proof.Spec
public import proofs.«01_k».proof.ReferenceIdeal

@[expose] public section

noncomputable section

namespace Cert.Mla

open Idealize.ShloMosaic

/-- The arguments' entries, and the reference's tables. -/
def insOf (a0 : (⟨3, ![2, 128, 3584]⟩ : Shape).Idx → EReal) (a1 : (⟨1, ![3584]⟩ : Shape).Idx → EReal)
    (a2 : (⟨1, ![1024]⟩ : Shape).Idx → EReal) (a3 : (⟨1, ![384]⟩ : Shape).Idx → EReal)
    (a4 : (⟨2, ![3584, 1024]⟩ : Shape).Idx → EReal) (a5 : (⟨2, ![28, 8]⟩ : Shape).Idx → EReal)
    (a6 : (⟨2, ![1024, 3840]⟩ : Shape).Idx → EReal) (a7 : (⟨2, ![8, 30]⟩ : Shape).Idx → EReal)
    (a8 : (⟨2, ![3584, 416]⟩ : Shape).Idx → EReal) (a9 : (⟨2, ![28, 4]⟩ : Shape).Idx → EReal)
    (a10 : (⟨2, ![384, 6400]⟩ : Shape).Idx → EReal) (a11 : (⟨2, ![3, 50]⟩ : Shape).Idx → EReal)
    (a12 : (⟨2, ![3840, 3584]⟩ : Shape).Idx → EReal) (a13 : (⟨2, ![30, 28]⟩ : Shape).Idx → EReal) : Ins where
  x := fun i j => a0 (ix3 ⟨i.val / 128, by omega⟩ ⟨i.val % 128, by omega⟩ j)
  g1 := fun j => a1 (ix1 j)
  g2 := fun j => a2 (ix1 j)
  g3 := fun j => a3 (ix1 j)
  wqa := fun i j => a4 (ix2 i j)
  sqa := fun i j => a5 (ix2 i j)
  wqb := fun i j => a6 (ix2 i j)
  sqb := fun i j => a7 (ix2 i j)
  wkva := fun i j => a8 (ix2 i j)
  skva := fun i j => a9 (ix2 i j)
  wkvb := fun i j => a10 (ix2 i j)
  skvb := fun i j => a11 (ix2 i j)
  wo := fun i j => a12 (ix2 i j)
  so := fun i j => a13 (ix2 i j)
  cos := fun i p => Ideal.ofBits .f32 (Cert.ReferenceIdeal.lit0t (i.val * 16 + p.val))
  sin := fun i p => Ideal.ofBits .f32 (Cert.ReferenceIdeal.lit1t (i.val * 16 + p.val))

/-- Turning the sign bit of a float whose exponent field is not full negates it. -/
theorem ofBits_flip (b : BitVec 32) (h : (b.extractLsb' 23 8).toNat ≠ 255) :
    Ideal.ofBits .f32 (b ^^^ 0x80000000#32) = -Ideal.ofBits .f32 b := by
  have e1 : (b ^^^ 0x80000000#32).extractLsb' 23 8 = b.extractLsb' 23 8 := by
    rw [BitVec.extractLsb'_xor]
    exact (congrArg _ (by decide : (0x80000000#32).extractLsb' 23 8 = 0#8)).trans (BitVec.xor_zero)
  have e2 : (b ^^^ 0x80000000#32).extractLsb' 0 23 = b.extractLsb' 0 23 := by
    rw [BitVec.extractLsb'_xor]
    exact (congrArg _ (by decide : (0x80000000#32).extractLsb' 0 23 = 0#23)).trans (BitVec.xor_zero)
  have e3 : (b ^^^ 0x80000000#32).extractLsb' 31 1 = b.extractLsb' 31 1 ^^^ 1#1 := by
    rw [BitVec.extractLsb'_xor]
    exact congrArg _ (by decide : (0x80000000#32).extractLsb' 31 1 = 1#1)
  have e4 : ∀ x : BitVec 1, ((x ^^^ 1#1) == 1#1) = !(x == 1#1) := by decide
  have key : ∀ (n : Bool) (ex fr : ℕ), ex ≠ 255 →
      (if ex = 2 ^ 8 - 1 then (if fr = 0 then (if (!n) = true then (⊥ : EReal) else ⊤) else ⊥)
      else if ex = 0 then ((((if (!n) = true then -1 else 1 : ℝ) * fr * (2 : ℝ) ^ (1 - ((2 : Int) ^ (8 - 1) - 1) - (23 : ℕ) : Int) : ℝ)) : EReal)
      else ((((if (!n) = true then -1 else 1 : ℝ) * (2 ^ 23 + fr : ℕ) * (2 : ℝ) ^ ((ex : Int) - ((2 : Int) ^ (8 - 1) - 1) - (23 : ℕ)) : ℝ)) : EReal))
      = -(if ex = 2 ^ 8 - 1 then (if fr = 0 then (if n = true then (⊥ : EReal) else ⊤) else ⊥)
      else if ex = 0 then ((((if n = true then -1 else 1 : ℝ) * fr * (2 : ℝ) ^ (1 - ((2 : Int) ^ (8 - 1) - 1) - (23 : ℕ) : Int) : ℝ)) : EReal)
      else ((((if n = true then -1 else 1 : ℝ) * (2 ^ 23 + fr : ℕ) * (2 : ℝ) ^ ((ex : Int) - ((2 : Int) ^ (8 - 1) - 1) - (23 : ℕ)) : ℝ)) : EReal)) := by
    intro n ex fr hx
    have hx' : ¬ex = 2 ^ 8 - 1 := hx
    rw [if_neg hx', if_neg hx']
    split
    · rw [← EReal.coe_neg]
      congr 1
      cases n <;> simp
    · rw [← EReal.coe_neg]
      congr 1
      cases n <;> simp <;> ring
  show Ideal.ieee 8 23 (b ^^^ 0x80000000#32) = -Ideal.ieee 8 23 b
  have k := key (b.extractLsb' 31 1 == 1#1) (b.extractLsb' 23 8).toNat (b.extractLsb' 0 23).toNat h
  rw [← e4, ← e3] at k
  unfold Ideal.ieee
  rw [e1, e2]
  exact k

end Cert.Mla

end
-- ==== Proof.Tables.lean ====
/-
  The two programs' tables of the rotary turn, entry by entry: the kernel's cosines are the reference's, its sines
  the reference's with the sign turned in the even columns.
-/
module
public import proofs.«01_k».proof.KernelIdeal
public import proofs.«01_k».proof.ReferenceIdeal
@[expose] public section

namespace Cert.Mla

theorem cos_table : ∀ (i : Fin 256) (l : Fin 32), Cert.KernelIdeal.lit0t (i.val * 32 + l.val) = Cert.ReferenceIdeal.lit0t (i.val % 128 * 16 + l.val / 2) := by
  decide +kernel

theorem sin_table : ∀ (i : Fin 256) (l : Fin 32), Cert.KernelIdeal.lit1t (i.val * 32 + l.val)
    = if l.val % 2 < 1 then Cert.ReferenceIdeal.lit1t (i.val % 128 * 16 + l.val / 2) ^^^ 0x80000000#32
      else Cert.ReferenceIdeal.lit1t (i.val % 128 * 16 + l.val / 2) := by
  decide +kernel

end Cert.Mla

end
-- ==== Proof.KTop.lean ====
/-
  What the kernel's run leaves in its results, from its arguments, over the extended reals.
-/
module

public import proofs.«01_k».proof.Proof.Gen.KernelIdeal.Value
public import proofs.«01_k».proof.Proof.KRun
public import proofs.«01_k».proof.Proof.Args
public import proofs.«01_k».proof.Proof.Tables
public import Idealize.ShloMosaic.Lib.Pipeline.ValueKit

@[expose] public section

noncomputable section

namespace Cert.KernelIdeal.Gen

open Cert.Mla Idealize.ShloMosaic Idealize.ShloMosaic.TcCoe Idealize.ShloMosaic.View
open Idealize.ShloMosaic.Pipeline (Dat)

variable (m : (ℓ : Loc nD τ sig) → Buf (Elt Ideal) ℓ)

/-- The entries the program's arguments hold. -/
def args (c : Dev nD) : Ins :=
  insOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- No entry of the reference's sines has a full exponent field. -/
theorem sin_finite : ∀ (i : Fin 128) (p : Fin 16), ((Cert.ReferenceIdeal.lit1t (i.val * 16 + p.val)).extractLsb' 23 8).toNat ≠ 255 := by
  decide +kernel

/-! ## What the arrays hold when the kernel starts -/

theorem host_x (c : Dev nD) (i : Fin 256) (j : Fin 3584) : (V m c main_v0 : S256x3584.Idx → EReal) (ix2 i j) = (args m c).x i j := by
  unfold V hostOps0
  after_results_simp
  pointwise
  rfl

theorem host_g1 (c : Dev nD) (i : Fin 1) (j : Fin 3584) : (V m c main_v1 : S1x3584.Idx → EReal) (ix2 i j) = (args m c).g1 j := by
  unfold V hostOps0
  after_results_simp
  pointwise
  rfl

theorem host_g2 (c : Dev nD) (i : Fin 1) (j : Fin 1024) : (V m c main_v2 : S1x1024.Idx → EReal) (ix2 i j) = (args m c).g2 j := by
  unfold V hostOps0
  after_results_simp
  pointwise
  rfl

theorem host_g3 (c : Dev nD) (i : Fin 1) (j : Fin 384) : (V m c main_v3 : S1x384.Idx → EReal) (ix2 i j) = (args m c).g3 j := by
  unfold V hostOps0
  after_results_simp
  pointwise
  rfl

theorem place (i : Fin 256) (j : Fin 32) : (S256x32.rowMajor (ix2 i j)).val = i.val * 32 + j.val := by
  show (Shape.rowMajorPi ![256, 32] (ix2 i j)).val = _
  simp [Shape.rowMajorPi_succ_val]

theorem host_cos (c : Dev nD) (i : Fin 256) (j : Fin 32) :
    (V m c main_cst : S256x32.Idx → EReal) (ix2 i j) = Ideal.ofBits .f32 (lit0t (i.val * 32 + j.val)) := by
  unfold V hostOps0
  after_results_simp
  pointwise
  show Ideal.ofBits .f32 (lit0t (S256x32.rowMajor (ix2 i j)).val) = _
  rw [place]

theorem host_sin (c : Dev nD) (i : Fin 256) (j : Fin 32) :
    (V m c main_cst_0 : S256x32.Idx → EReal) (ix2 i j) = Ideal.ofBits .f32 (lit1t (i.val * 32 + j.val)) := by
  unfold V hostOps0
  after_results_simp
  pointwise
  show Ideal.ofBits .f32 (lit1t (S256x32.rowMajor (ix2 i j)).val) = _
  rw [place]

theorem arr_of {α : Type} {M N : ℕ} {X : (⟨2, ![M, N]⟩ : Shape).Idx → α} {f : Fin M → Fin N → α} (h : ∀ i j, X (ix2 i j) = f i j) : X = Arr f :=
  (arr_self X).trans (congrArg Arr (funext fun i => funext fun j => h i j))

/-! ## The windows' blocks: each the whole array -/

theorem blk0 (c : Dev nD) (t : Fin cfg0.N) : iblk m c 0 t = (V m c main_arg5 : S28x8.Idx → EReal) := by
  generalize hV : V m c = W
  funext y
  unfold iblk
  rw [hV]
  blk_ext
  all_goals
    first
    | show 0 * _ + _ = _
      omega
    | rfl

theorem blk1 (c : Dev nD) (t : Fin cfg0.N) : iblk m c 1 t = (V m c main_arg7 : S8x30.Idx → EReal) := by
  generalize hV : V m c = W
  funext y
  unfold iblk
  rw [hV]
  blk_ext
  all_goals
    first
    | show 0 * _ + _ = _
      omega
    | rfl

theorem blk2 (c : Dev nD) (t : Fin cfg0.N) : iblk m c 2 t = (V m c main_arg9 : S28x4.Idx → EReal) := by
  generalize hV : V m c = W
  funext y
  unfold iblk
  rw [hV]
  blk_ext
  all_goals
    first
    | show 0 * _ + _ = _
      omega
    | rfl

theorem blk3 (c : Dev nD) (t : Fin cfg0.N) : iblk m c 3 t = (V m c main_arg11 : S3x50.Idx → EReal) := by
  generalize hV : V m c = W
  funext y
  unfold iblk
  rw [hV]
  blk_ext
  all_goals
    first
    | show 0 * _ + _ = _
      omega
    | rfl

theorem blk4 (c : Dev nD) (t : Fin cfg0.N) : iblk m c 4 t = (V m c main_arg13 : S30x28.Idx → EReal) := by
  generalize hV : V m c = W
  funext y
  unfold iblk
  rw [hV]
  blk_ext
  all_goals
    first
    | show 0 * _ + _ = _
      omega
    | rfl

theorem blk5 (c : Dev nD) (t : Fin cfg0.N) : iblk m c 5 t = (V m c main_v0 : S256x3584.Idx → EReal) := by
  generalize hV : V m c = W
  funext y
  unfold iblk
  rw [hV]
  blk_ext
  all_goals
    first
    | show 0 * _ + _ = _
      omega
    | rfl

theorem blk6 (c : Dev nD) (t : Fin cfg0.N) : iblk m c 6 t = (V m c main_v1 : S1x3584.Idx → EReal) := by
  generalize hV : V m c = W
  funext y
  unfold iblk
  rw [hV]
  blk_ext
  all_goals
    first
    | show 0 * _ + _ = _
      omega
    | rfl

theorem blk7 (c : Dev nD) (t : Fin cfg0.N) : iblk m c 7 t = (V m c main_v2 : S1x1024.Idx → EReal) := by
  generalize hV : V m c = W
  funext y
  unfold iblk
  rw [hV]
  blk_ext
  all_goals
    first
    | show 0 * _ + _ = _
      omega
    | rfl

theorem blk8 (c : Dev nD) (t : Fin cfg0.N) : iblk m c 8 t = (V m c main_v3 : S1x384.Idx → EReal) := by
  generalize hV : V m c = W
  funext y
  unfold iblk
  rw [hV]
  blk_ext
  all_goals
    first
    | show 0 * _ + _ = _
      omega
    | rfl

theorem blk9 (c : Dev nD) (t : Fin cfg0.N) : iblk m c 9 t = (V m c main_arg4 : S3584x1024.Idx → EReal) := by
  generalize hV : V m c = W
  funext y
  unfold iblk
  rw [hV]
  blk_ext
  all_goals
    first
    | show 0 * _ + _ = _
      omega
    | rfl

theorem blk10 (c : Dev nD) (t : Fin cfg0.N) : iblk m c 10 t = (V m c main_arg6 : S1024x3840.Idx → EReal) := by
  generalize hV : V m c = W
  funext y
  unfold iblk
  rw [hV]
  blk_ext
  all_goals
    first
    | show 0 * _ + _ = _
      omega
    | rfl

theorem blk11 (c : Dev nD) (t : Fin cfg0.N) : iblk m c 11 t = (V m c main_arg8 : S3584x416.Idx → EReal) := by
  generalize hV : V m c = W
  funext y
  unfold iblk
  rw [hV]
  blk_ext
  all_goals
    first
    | show 0 * _ + _ = _
      omega
    | rfl

theorem blk12 (c : Dev nD) (t : Fin cfg0.N) : iblk m c 12 t = (V m c main_arg10 : S384x6400.Idx → EReal) := by
  generalize hV : V m c = W
  funext y
  unfold iblk
  rw [hV]
  blk_ext
  all_goals
    first
    | show 0 * _ + _ = _
      omega
    | rfl

theorem blk13 (c : Dev nD) (t : Fin cfg0.N) : iblk m c 13 t = (V m c main_arg12 : S3840x3584.Idx → EReal) := by
  generalize hV : V m c = W
  funext y
  unfold iblk
  rw [hV]
  blk_ext
  all_goals
    first
    | show 0 * _ + _ = _
      omega
    | rfl

theorem blk14 (c : Dev nD) (t : Fin cfg0.N) : iblk m c 14 t = (V m c main_cst : S256x32.Idx → EReal) := by
  generalize hV : V m c = W
  funext y
  unfold iblk
  rw [hV]
  blk_ext
  all_goals
    first
    | show 0 * _ + _ = _
      omega
    | rfl

theorem blk15 (c : Dev nD) (t : Fin cfg0.N) : iblk m c 15 t = (V m c main_cst_0 : S256x32.Idx → EReal) := by
  generalize hV : V m c = W
  funext y
  unfold iblk
  rw [hV]
  blk_ext
  all_goals
    first
    | show 0 * _ + _ = _
      omega
    | rfl

theorem given (c : Dev nD) (t : Fin cfg0.N) : Given (args m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  h0 := ((blk0 m c t).trans (V_main_arg5 m c)).trans (arr_of fun _ _ => rfl)
  h1 := ((blk1 m c t).trans (V_main_arg7 m c)).trans (arr_of fun _ _ => rfl)
  h2 := ((blk2 m c t).trans (V_main_arg9 m c)).trans (arr_of fun _ _ => rfl)
  h3 := ((blk3 m c t).trans (V_main_arg11 m c)).trans (arr_of fun _ _ => rfl)
  h4 := ((blk4 m c t).trans (V_main_arg13 m c)).trans (arr_of fun _ _ => rfl)
  h5 := (blk5 m c t).trans (arr_of (host_x m c))
  h6 := (blk6 m c t).trans (arr_of (host_g1 m c))
  h7 := (blk7 m c t).trans (arr_of (host_g2 m c))
  h8 := (blk8 m c t).trans (arr_of (host_g3 m c))
  h9 := ((blk9 m c t).trans (V_main_arg4 m c)).trans (arr_of fun _ _ => rfl)
  h10 := ((blk10 m c t).trans (V_main_arg6 m c)).trans (arr_of fun _ _ => rfl)
  h11 := ((blk11 m c t).trans (V_main_arg8 m c)).trans (arr_of fun _ _ => rfl)
  h12 := ((blk12 m c t).trans (V_main_arg10 m c)).trans (arr_of fun _ _ => rfl)
  h13 := ((blk13 m c t).trans (V_main_arg12 m c)).trans (arr_of fun _ _ => rfl)
  h14 := fun i l => by
    refine (congrFun (blk14 m c t) _).trans ((host_cos m c i l).trans ?_)
    rw [cos_table]
    rfl
  h15 := fun i l => by
    refine (congrFun (blk15 m c t) _).trans ((host_sin m c i l).trans ?_)
    rw [sin_table]
    split
    · exact ofBits_flip _ (sin_finite ⟨i.val % 128, by omega⟩ ⟨l.val / 2, by omega⟩)
    · rfl

/-! ## What the results hold after the run -/

theorem result16 (c : Dev nD) :
    (dats m 0 c).arrAt 16 cfg0.N = (Arr (args m c).y : S256x3584.Idx → EReal) := by
  refine (dats m 0 c).arrAt_eq_of_covers 16 _ (by decide +kernel) fun t hf y => ?_
  blk_simp
  rw [after0_16]
  unfold outsAt0
  dsimp only
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o16 (given m c t)]
  blk_ext
  all_goals
    show _ = 0 * _ + _
    omega

theorem result17 (c : Dev nD) :
    (dats m 0 c).arrAt 17 cfg0.N = (Arr (codeOf (n := 28) rfl (args m c).xn) : S256x3584.Idx → EReal) := by
  refine (dats m 0 c).arrAt_eq_of_covers 17 _ (by decide +kernel) fun t hf y => ?_
  blk_simp
  rw [after0_17]
  unfold outsAt0
  dsimp only
  unfold out0_A_17
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o17 (given m c t)]
  blk_ext
  all_goals
    show _ = 0 * _ + _
    omega

theorem result18 (c : Dev nD) :
    (dats m 0 c).arrAt 18 cfg0.N = (Arr (scaleOf (n := 28) rfl (args m c).xn) : S256x28.Idx → EReal) := by
  refine (dats m 0 c).arrAt_eq_of_covers 18 _ (by decide +kernel) fun t hf y => ?_
  blk_simp
  rw [after0_18]
  unfold outsAt0
  dsimp only
  unfold out0_A_18
  rw [View.read_writes_eq_canon _ _ _ (cover0_A_18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o18 (given m c t)]
  blk_ext
  all_goals
    show _ = 0 * _ + _
    omega

theorem result19 (c : Dev nD) :
    (dats m 0 c).arrAt 19 cfg0.N = (Arr (codeOf (n := 8) rfl (args m c).cqn) : S256x1024.Idx → EReal) := by
  refine (dats m 0 c).arrAt_eq_of_covers 19 _ (by decide +kernel) fun t hf y => ?_
  blk_simp
  rw [after0_19]
  unfold outsAt0
  dsimp only
  unfold out0_A_19
  rw [View.read_writes_eq_canon _ _ _ (cover0_A_19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o19 (given m c t)]
  blk_ext
  all_goals
    show _ = 0 * _ + _
    omega

theorem result20 (c : Dev nD) :
    (dats m 0 c).arrAt 20 cfg0.N = (Arr (scaleOf (n := 8) rfl (args m c).cqn) : S256x8.Idx → EReal) := by
  refine (dats m 0 c).arrAt_eq_of_covers 20 _ (by decide +kernel) fun t hf y => ?_
  blk_simp
  rw [after0_20]
  unfold outsAt0
  dsimp only
  unfold out0_A_20
  rw [View.read_writes_eq_canon _ _ _ (cover0_A_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o20 (given m c t)]
  blk_ext
  all_goals
    show _ = 0 * _ + _
    omega

theorem result21 (c : Dev nD) :
    (dats m 0 c).arrAt 21 cfg0.N = (Arr (codeOf (n := 3) rfl (args m c).kvn) : S256x384.Idx → EReal) := by
  refine (dats m 0 c).arrAt_eq_of_covers 21 _ (by decide +kernel) fun t hf y => ?_
  blk_simp
  rw [after0_21]
  unfold outsAt0
  dsimp only
  unfold out0_A_21
  rw [View.read_writes_eq_canon _ _ _ (cover0_A_21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o21 (given m c t)]
  blk_ext
  all_goals
    show _ = 0 * _ + _
    omega

theorem result22 (c : Dev nD) :
    (dats m 0 c).arrAt 22 cfg0.N = (Arr (scaleOf (n := 3) rfl (args m c).kvn) : S256x3.Idx → EReal) := by
  refine (dats m 0 c).arrAt_eq_of_covers 22 _ (by decide +kernel) fun t hf y => ?_
  blk_simp
  rw [after0_22]
  unfold outsAt0
  dsimp only
  unfold out0_A_22
  rw [View.read_writes_eq_canon _ _ _ (cover0_A_22 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o22 (given m c t)]
  blk_ext
  all_goals
    show _ = 0 * _ + _
    omega

theorem result23 (c : Dev nD) :
    (dats m 0 c).arrAt 23 cfg0.N = (Arr (codeOf (n := 30) rfl (args m c).o) : S256x3840.Idx → EReal) := by
  refine (dats m 0 c).arrAt_eq_of_covers 23 _ (by decide +kernel) fun t hf y => ?_
  blk_simp
  rw [after0_23]
  unfold outsAt0
  dsimp only
  unfold out0_A_23
  rw [View.read_writes_eq_canon _ _ _ (cover0_A_23 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o23 (given m c t)]
  blk_ext
  all_goals
    show _ = 0 * _ + _
    omega

theorem result24 (c : Dev nD) :
    (dats m 0 c).arrAt 24 cfg0.N = (Arr (scaleOf (n := 30) rfl (args m c).o) : S256x30.Idx → EReal) := by
  refine (dats m 0 c).arrAt_eq_of_covers 24 _ (by decide +kernel) fun t hf y => ?_
  blk_simp
  rw [after0_24]
  unfold outsAt0
  dsimp only
  unfold out0_A_24
  rw [View.read_writes_eq_canon _ _ _ (cover0_A_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _), k_o24 (given m c t)]
  blk_ext
  all_goals
    show _ = 0 * _ + _
    omega

end Cert.KernelIdeal.Gen

end
-- ==== Proof.RExp.lean ====
/-
  The exponential of base 2 of an array, at an entry, over the extended reals.
-/
module

public import Idealize.ShloMosaic.Lib.Pointwise

@[expose] public section

noncomputable section

namespace Cert.ReferenceIdeal.Gen

open Idealize.ShloMosaic

/-- The exponential of an array at an entry. -/
theorem exp2_at {s : Shape} (u : FVec Ideal s .f32) (j : s.Idx) : exp2 u j = Ideal.exp2 (u j) := exp2_apply u j

end Cert.ReferenceIdeal.Gen

end
-- ==== Proof.RQuant.lean ====
/-
  The reference's first normalisation and its quantiser on 28 blocks, read at an entry over the extended reals.
-/
module

public import proofs.«01_k».proof.Proof.Gen.ReferenceIdeal.Skeleton
public import proofs.«01_k».proof.Proof.RExp
public import proofs.«01_k».proof.Proof.Spec

@[expose] public section

set_option maxHeartbeats 4000000

noncomputable section

namespace Cert.ReferenceIdeal.Gen

open Cert.Mla Idealize.ShloMosaic Idealize.ShloMosaic.TcCoe

theorem pay2_read (v0 : Vec Ideal S256x3584 .bf16) (i : Fin 256) (j : Fin 3584) : k0_pay2 v0 (ix2 i j) = v0 (ix2 i j) := by
  pointwise [k0_pay2]

theorem pay3_read (v0 : Vec Ideal S256x3584 .bf16) (v3 : Vec Ideal S1x3584 .f32) (i : Fin 256) (b : Fin 28) (l : Fin 128) (h : 128 * b.val + l.val < 3584) :
    k0_pay3 v0 v3 (ix3 i b l) = rms 1163919360#32 (fun i j => v0 (ix2 i j)) (fun j => v3 (ix2 0 j)) i ⟨128 * b.val + l.val, h⟩ := by
  pointwise [k0_pay3]
  simp only [pay2_read]
  have e : (⟨b.val * 128 + l.val, by omega⟩ : Fin 3584) = ⟨128 * b.val + l.val, h⟩ := Fin.ext (by show b.val * 128 + l.val = 128 * b.val + l.val; omega)
  rw [e]
  rfl

theorem pay4_read {v0 : Vec Ideal S256x3584 .bf16} {v3 : Vec Ideal S1x3584 .f32} {v : Mat 256 3584}
    (h : ∀ (i : Fin 256) (b : Fin 28) (l : Fin 128), k0_pay3 v0 v3 (ix3 i b l) = v i ⟨128 * b.val + l.val, colLt (n := 28) rfl b l⟩)
    (i : Fin 256) (b : Fin 28) : k0_pay4 v0 v3 (ix2 i b) = qe (qmax (n := 28) rfl v i b) := by
  unfold k0_pay4
  generalize k0_pay3 v0 v3 = t at h
  have key := @exp2_at S256x28x252
  generalize exp2 (F := Ideal) (s := S256x28x252) (φ := .f32) = E at key ⊢
  pointwise [key]
  simp only [h]
  rfl

theorem pay5_read (v0 : Vec Ideal S256x3584 .bf16) (v3 : Vec Ideal S1x3584 .f32) (i : Fin 256) (b : Fin 28) :
    k0_pay5 v0 v3 (ix2 i b) = Ideal.exp2 (k0_pay4 v0 v3 (ix2 i b)) := by
  unfold k0_pay5
  generalize k0_pay4 v0 v3 = t
  have key := @exp2_at S256x28
  generalize exp2 (F := Ideal) (s := S256x28) (φ := .f32) = E at key ⊢
  pointwise [key]

theorem pay6_read (v0 : Vec Ideal S256x3584 .bf16) (v3 : Vec Ideal S1x3584 .f32) (i : Fin 256) (b : Fin 28) (l : Fin 128) :
    k0_pay6 v0 v3 (ix3 i b l) = k0_pay3 v0 v3 (ix3 i b l) * Ideal.exp2 (0 - k0_pay4 v0 v3 (ix2 i b)) := by
  unfold k0_pay6
  generalize k0_pay4 v0 v3 = t
  generalize k0_pay3 v0 v3 = s
  have key := @exp2_at S256x28
  generalize exp2 (F := Ideal) (s := S256x28) (φ := .f32) = E at key ⊢
  pointwise [key]

theorem pay7_read (v43 : FVec Ideal S256x28x128 .f32) (cst : Ideal .f32) (i : Fin 256) (j : Fin 3584) :
    k0_pay7 v43 cst (ix2 i j) = min (Ideal.ofBits .f32 1138753536#32) (max cst
      (v43 (ix3 i ⟨j.val / 128, divLt (n := 28) (by omega) j⟩ ⟨j.val % 128, by omega⟩))) := by
  pointwise [k0_pay7]

end Cert.ReferenceIdeal.Gen

end
-- ==== Proof.RQuantB.lean ====
/-
  The reference's quantiser on 8 and on 3 blocks, read at an entry over the extended reals.
-/
module

public import proofs.«01_k».proof.Proof.Gen.ReferenceIdeal.Skeleton
public import proofs.«01_k».proof.Proof.RExp
public import proofs.«01_k».proof.Proof.Spec

@[expose] public section

set_option maxHeartbeats 4000000

noncomputable section

namespace Cert.ReferenceIdeal.Gen

open Cert.Mla Idealize.ShloMosaic Idealize.ShloMosaic.TcCoe

theorem pay9_read {v86 : FVec Ideal S256x8x128 .f32} {v : Mat 256 1024}
    (h : ∀ (i : Fin 256) (b : Fin 8) (l : Fin 128), v86 (ix3 i b l) = v i ⟨128 * b.val + l.val, colLt (n := 8) rfl b l⟩)
    (i : Fin 256) (b : Fin 8) : k0_pay9 v86 (ix2 i b) = qe (qmax (n := 8) rfl v i b) := by
  unfold k0_pay9
  have key := @exp2_at S256x8x252
  generalize exp2 (F := Ideal) (s := S256x8x252) (φ := .f32) = E at key ⊢
  pointwise [key]
  simp only [h]
  rfl

theorem pay10_read (v86 : FVec Ideal S256x8x128 .f32) (i : Fin 256) (b : Fin 8) : k0_pay10 v86 (ix2 i b) = Ideal.exp2 (k0_pay9 v86 (ix2 i b)) := by
  unfold k0_pay10
  generalize k0_pay9 v86 = t
  have key := @exp2_at S256x8
  generalize exp2 (F := Ideal) (s := S256x8) (φ := .f32) = E at key ⊢
  pointwise [key]

theorem pay11_read (v86 : FVec Ideal S256x8x128 .f32) (i : Fin 256) (j : Fin 1024) :
    k0_pay11 v86 (ix2 i j) = min (Ideal.ofBits .f32 1138753536#32) (max (Ideal.ofBits .f32 3286237184#32)
      (v86 (ix3 i ⟨j.val / 128, divLt (n := 8) (by omega) j⟩ ⟨j.val % 128, by omega⟩)
        * Ideal.exp2 (0 - k0_pay9 v86 (ix2 i ⟨j.val / 128, divLt (n := 8) (by omega) j⟩)))) := by
  unfold k0_pay11
  generalize k0_pay9 v86 = t
  have key := @exp2_at S256x8
  generalize exp2 (F := Ideal) (s := S256x8) (φ := .f32) = E at key ⊢
  pointwise [key]

theorem pay22_read {v165 : FVec Ideal S256x384 .f32} {v167 : FVec Ideal S1x384 .f32} {v175 : FVec Ideal S256x1 .f32} {v : Mat 256 384}
    (h : ∀ (i : Fin 256) (b : Fin 3) (l : Fin 128), k0_pay21 v165 v167 v175 (ix3 i b l) = v i ⟨128 * b.val + l.val, colLt (n := 3) rfl b l⟩)
    (i : Fin 256) (b : Fin 3) : k0_pay22 v165 v167 v175 (ix2 i b) = qe (qmax (n := 3) rfl v i b) := by
  unfold k0_pay22
  generalize k0_pay21 v165 v167 v175 = t at h
  have key := @exp2_at S256x3x252
  generalize exp2 (F := Ideal) (s := S256x3x252) (φ := .f32) = E at key ⊢
  pointwise [key]
  simp only [h]
  rfl

theorem pay23_read (v165 : FVec Ideal S256x384 .f32) (v167 : FVec Ideal S1x384 .f32) (v175 : FVec Ideal S256x1 .f32) (i : Fin 256) (b : Fin 3) :
    k0_pay23 v165 v167 v175 (ix2 i b) = Ideal.exp2 (k0_pay22 v165 v167 v175 (ix2 i b)) := by
  unfold k0_pay23
  generalize k0_pay22 v165 v167 v175 = t
  have key := @exp2_at S256x3
  generalize exp2 (F := Ideal) (s := S256x3) (φ := .f32) = E at key ⊢
  pointwise [key]

theorem pay24_read (v165 : FVec Ideal S256x384 .f32) (v167 : FVec Ideal S1x384 .f32) (v175 : FVec Ideal S256x1 .f32) (i : Fin 256) (j : Fin 384) :
    k0_pay24 v165 v167 v175 (ix2 i j) = min (Ideal.ofBits .f32 1138753536#32) (max (Ideal.ofBits .f32 3286237184#32)
      (k0_pay21 v165 v167 v175 (ix3 i ⟨j.val / 128, divLt (n := 3) (by omega) j⟩ ⟨j.val % 128, by omega⟩)
        * Ideal.exp2 (0 - k0_pay22 v165 v167 v175 (ix2 i ⟨j.val / 128, divLt (n := 3) (by omega) j⟩)))) := by
  unfold k0_pay24
  generalize k0_pay22 v165 v167 v175 = t
  generalize k0_pay21 v165 v167 v175 = s
  have key := @exp2_at S256x3
  generalize exp2 (F := Ideal) (s := S256x3) (φ := .f32) = E at key ⊢
  pointwise [key]

end Cert.ReferenceIdeal.Gen

end
-- ==== Proof.RQuantC.lean ====
/-
  The reference's quantiser on 30 blocks, read at an entry over the extended reals.
-/
module

public import proofs.«01_k».proof.Proof.Gen.ReferenceIdeal.Skeleton
public import proofs.«01_k».proof.Proof.RExp
public import proofs.«01_k».proof.Proof.Spec

@[expose] public section

set_option maxHeartbeats 4000000

noncomputable section

namespace Cert.ReferenceIdeal.Gen

open Cert.Mla Idealize.ShloMosaic Idealize.ShloMosaic.TcCoe

theorem pay36_read {v294 : FVec Ideal S2x128x40x96 .bf16} {v323 : FVec Ideal S80x128x128 .f32} {v : Mat 256 3840}
    (h : ∀ (i : Fin 256) (b : Fin 30) (l : Fin 128), k0_pay35 v294 v323 (ix3 i b l) = v i ⟨128 * b.val + l.val, colLt (n := 30) rfl b l⟩)
    (i : Fin 256) (b : Fin 30) : k0_pay36 v294 v323 (ix2 i b) = qe (qmax (n := 30) rfl v i b) := by
  unfold k0_pay36
  generalize k0_pay35 v294 v323 = t at h
  have key := @exp2_at S256x30x252
  generalize exp2 (F := Ideal) (s := S256x30x252) (φ := .f32) = E at key ⊢
  pointwise [key]
  simp only [h]
  rfl

theorem pay37_read (v294 : FVec Ideal S2x128x40x96 .bf16) (v323 : FVec Ideal S80x128x128 .f32) (i : Fin 256) (b : Fin 30) :
    k0_pay37 v294 v323 (ix2 i b) = Ideal.exp2 (k0_pay36 v294 v323 (ix2 i b)) := by
  unfold k0_pay37
  generalize k0_pay36 v294 v323 = t
  have key := @exp2_at S256x30
  generalize exp2 (F := Ideal) (s := S256x30) (φ := .f32) = E at key ⊢
  pointwise [key]

theorem pay38_read (v294 : FVec Ideal S2x128x40x96 .bf16) (v323 : FVec Ideal S80x128x128 .f32) (i : Fin 256) (j : Fin 3840) :
    k0_pay38 v294 v323 (ix2 i j) = min (Ideal.ofBits .f32 1138753536#32) (max (Ideal.ofBits .f32 3286237184#32)
      (k0_pay35 v294 v323 (ix3 i ⟨j.val / 128, divLt (n := 30) (by omega) j⟩ ⟨j.val % 128, by omega⟩)
        * Ideal.exp2 (0 - k0_pay36 v294 v323 (ix2 i ⟨j.val / 128, divLt (n := 30) (by omega) j⟩)))) := by
  unfold k0_pay38
  generalize k0_pay36 v294 v323 = t
  generalize k0_pay35 v294 v323 = s
  have key := @exp2_at S256x30
  generalize exp2 (F := Ideal) (s := S256x30) (φ := .f32) = E at key ⊢
  pointwise [key]

end Cert.ReferenceIdeal.Gen

end
-- ==== Proof.RVals.lean ====
/-
  The reference's projections, rotary turns and attention, each read at an entry from what its operands hold.
-/
module

public import proofs.«01_k».proof.Proof.Gen.ReferenceIdeal.Skeleton
public import proofs.«01_k».proof.Proof.Spec

@[expose] public section

set_option maxHeartbeats 4000000

noncomputable section

namespace Cert.ReferenceIdeal.Gen

open Cert.Mla Idealize.ShloMosaic Idealize.ShloMosaic.TcCoe

variable (A : Ins)

theorem pay8_read {v37 : FVec Ideal S256x28 .f32} {v43 : FVec Ideal S256x28x128 .f32} {cst : Ideal .f32}
    {v52 : Vec Ideal S3584x1024 .fp8e4m3} {v53 : Vec Ideal S28x8 .f32} {v72 : Vec Ideal S1x1024 .f32}
    (h7 : ∀ (i : Fin 256) (x : Fin 3584), k0_pay7 v43 cst (ix2 i x) = codeOf (n := 28) rfl A.xn i x)
    (h37 : ∀ (i : Fin 256) (b : Fin 28), v37 (ix2 i b) = scaleOf (n := 28) rfl A.xn i b)
    (h52 : ∀ (x : Fin 3584) (j : Fin 1024), v52 (ix2 x j) = A.wqa x j)
    (h53 : ∀ (x : Fin 28) (j : Fin 8), v53 (ix2 x j) = A.sqa x j)
    (h72 : ∀ j : Fin 1024, v72 (ix2 0 j) = A.g2 j)
    (i : Fin 256) (b : Fin 8) (l : Fin 128) :
    k0_pay8 v37 v43 cst v52 v53 v72 (ix3 i b l) = A.cqn i ⟨128 * b.val + l.val, colLt (n := 8) rfl b l⟩ := by
  pointwise [k0_pay8]
  simp only [h7, h37, h52, h53, h72, Nat.mul_comm b.val 128]
  have hb : ∀ h, (⟨(128 * b.val + l.val) / 128, h⟩ : Fin 8) = b := fun h => Fin.ext (by show (128 * b.val + l.val) / 128 = b.val; omega)
  have hc : A.cq i ⟨128 * b.val + l.val, colLt (n := 8) rfl b l⟩ = ∑ x : Fin 3584, codeOf (n := 28) rfl A.xn i x
      * scaleOf (n := 28) rfl A.xn i ⟨x.val / 128, divLt (n := 28) (by omega) x⟩
      * (A.wqa x ⟨128 * b.val + l.val, colLt (n := 8) rfl b l⟩ * A.sqa ⟨x.val / 128, divLt (n := 28) (by omega) x⟩ b) := by
    unfold Ins.cq proj
    simp only [hb]
    rfl
  unfold Ins.cqn rms
  rw [hc]
  rfl

theorem pay12_read (v86 : FVec Ideal S256x8x128 .f32) (i : Fin 256) (b : Fin 8) (l : Fin 128) :
    k0_pay12 v86 (ix3 i b l) = k0_pay11 v86 (ix2 i ⟨128 * b.val + l.val, colLt (n := 8) rfl b l⟩) := by
  pointwise [k0_pay12]
  simp only [Nat.mul_comm b.val 128]

theorem pay13_read (v86 : FVec Ideal S256x8x128 .f32) (i : Fin 256) (b : Fin 8) : k0_pay13 v86 (ix3 i b 0) = k0_pay10 v86 (ix2 i b) := by
  pointwise [k0_pay13]

theorem pay14_read {v121 : Vec Ideal S1024x3840 .fp8e4m3} {v122 : Vec Ideal S8x30 .f32} {v124 : FVec Ideal S256x8x128 .bf16} {v126 : FVec Ideal S256x8x1 .bf16}
    (h124 : ∀ (i : Fin 256) (b : Fin 8) (l : Fin 128), v124 (ix3 i b l) = codeOf (n := 8) rfl A.cqn i ⟨128 * b.val + l.val, colLt (n := 8) rfl b l⟩)
    (h126 : ∀ (i : Fin 256) (b : Fin 8), v126 (ix3 i b 0) = scaleOf (n := 8) rfl A.cqn i b)
    (h121 : ∀ (x : Fin 1024) (j : Fin 3840), v121 (ix2 x j) = A.wqb x j)
    (h122 : ∀ (x : Fin 8) (j : Fin 30), v122 (ix2 x j) = A.sqb x j)
    (b : Fin 2) (i : Fin 128) (h : Fin 40) (d : Fin 96) :
    k0_pay14 v121 v122 v124 v126 (ix4 b i h d) = A.q ⟨128 * b.val + i.val, by omega⟩ ⟨96 * h.val + d.val, by omega⟩ := by
  pointwise [k0_pay14]
  have e : ∀ (x : Fin 1024) g, (⟨128 * (x.val / 128) + x.val % 128, g⟩ : Fin 1024) = x := fun x g => Fin.ext (Nat.div_add_mod _ _)
  simp only [h124, h126, h121, h122, e, Nat.mul_comm b.val 128, Nat.mul_comm h.val 96]
  rfl

theorem pay15_read {v121 : Vec Ideal S1024x3840 .fp8e4m3} {v122 : Vec Ideal S8x30 .f32} {v124 : FVec Ideal S256x8x128 .bf16} {v126 : FVec Ideal S256x8x1 .bf16}
    (h14 : ∀ (b : Fin 2) (i : Fin 128) (h : Fin 40) (d : Fin 96), k0_pay14 v121 v122 v124 v126 (ix4 b i h d)
      = A.q ⟨128 * b.val + i.val, by omega⟩ ⟨96 * h.val + d.val, by omega⟩)
    (b : Fin 2) (i : Fin 128) (h : Fin 40) (d : Fin 64) :
    k0_pay15 v121 v122 v124 v126 (ix4 b i h d) = A.q ⟨128 * b.val + i.val, by omega⟩ ⟨96 * h.val + d.val, by omega⟩ := by
  pointwise [k0_pay15]
  exact h14 _ _ _ _

theorem pay16_read {v121 : Vec Ideal S1024x3840 .fp8e4m3} {v122 : Vec Ideal S8x30 .f32} {v124 : FVec Ideal S256x8x128 .bf16} {v126 : FVec Ideal S256x8x1 .bf16}
    (h14 : ∀ (b : Fin 2) (i : Fin 128) (h : Fin 40) (d : Fin 96), k0_pay14 v121 v122 v124 v126 (ix4 b i h d)
      = A.q ⟨128 * b.val + i.val, by omega⟩ ⟨96 * h.val + d.val, by omega⟩)
    (b : Fin 2) (i : Fin 128) (h : Fin 40) (d : Fin 32) :
    k0_pay16 v121 v122 v124 v126 (ix4 b i h d) = A.q ⟨128 * b.val + i.val, by omega⟩ ⟨96 * h.val + 64 + d.val, by omega⟩ := by
  pointwise [k0_pay16]
  refine (h14 _ _ _ _).trans ?_
  congr 1
  exact Fin.ext (by show 96 * h.val + (64 + d.val) = 96 * h.val + 64 + d.val; omega)

theorem pay17_read {v37 : FVec Ideal S256x28 .f32} {v49 : FVec Ideal S256x3584 .fp8e4m3} {v144 : Vec Ideal S3584x416 .fp8e4m3} {v145 : Vec Ideal S28x4 .f32}
    (h49 : ∀ (i : Fin 256) (x : Fin 3584), v49 (ix2 i x) = codeOf (n := 28) rfl A.xn i x)
    (h37 : ∀ (i : Fin 256) (b : Fin 28), v37 (ix2 i b) = scaleOf (n := 28) rfl A.xn i b)
    (h144 : ∀ (x : Fin 3584) (j : Fin 416), v144 (ix2 x j) = A.wkva x j)
    (h145 : ∀ (x : Fin 28) (j : Fin 4), v145 (ix2 x j) = A.skva x j)
    (i : Fin 256) (j : Fin 416) : k0_pay17 v37 v49 v144 v145 (ix2 i j) = A.kv i j := by
  pointwise [k0_pay17]
  simp only [h49, h37, h144, h145]
  rfl

theorem pay18_read {v37 : FVec Ideal S256x28 .f32} {v49 : FVec Ideal S256x3584 .fp8e4m3} {v144 : Vec Ideal S3584x416 .fp8e4m3} {v145 : Vec Ideal S28x4 .f32}
    (h17 : ∀ (i : Fin 256) (j : Fin 416), k0_pay17 v37 v49 v144 v145 (ix2 i j) = A.kv i j)
    (i : Fin 256) (j : Fin 384) : k0_pay18 v37 v49 v144 v145 (ix2 i j) = A.kvl i j := by
  pointwise [k0_pay18]
  exact h17 _ _

theorem pay19_read (v166 : Vec Ideal S1x384 .f32) (j : Fin 384) : k0_pay19 v166 (ix2 0 j) = v166 (ix2 0 j) := by
  pointwise [k0_pay19]

theorem pay20_read {v37 : FVec Ideal S256x28 .f32} {v49 : FVec Ideal S256x3584 .fp8e4m3} {v144 : Vec Ideal S3584x416 .fp8e4m3} {v145 : Vec Ideal S28x4 .f32}
    (h18 : ∀ (i : Fin 256) (j : Fin 384), k0_pay18 v37 v49 v144 v145 (ix2 i j) = A.kvl i j)
    (i : Fin 256) : k0_pay20 v37 v49 v144 v145 (ix2 i 0) = Ideal.rsqrt (Ideal.div (∑ l, A.kvl i l * A.kvl i l) (Ideal.ofBits .f32 1136656384#32)
      + Ideal.ofBits .f32 897988541#32) := by
  pointwise [k0_pay20]
  simp only [h18]

theorem pay21_read {v165 : FVec Ideal S256x384 .f32} {v167 : FVec Ideal S1x384 .f32} {v175 : FVec Ideal S256x1 .f32}
    (h165 : ∀ (i : Fin 256) (j : Fin 384), v165 (ix2 i j) = A.kvl i j)
    (h167 : ∀ j : Fin 384, v167 (ix2 0 j) = A.g3 j)
    (h175 : ∀ i : Fin 256, v175 (ix2 i 0) = Ideal.rsqrt (Ideal.div (∑ l, A.kvl i l * A.kvl i l) (Ideal.ofBits .f32 1136656384#32)
      + Ideal.ofBits .f32 897988541#32))
    (i : Fin 256) (b : Fin 3) (l : Fin 128) : k0_pay21 v165 v167 v175 (ix3 i b l) = A.kvn i ⟨128 * b.val + l.val, colLt (n := 3) rfl b l⟩ := by
  pointwise [k0_pay21]
  simp only [h165, h167, h175, Nat.mul_comm b.val 128]
  rfl

theorem pay25_read {v164 : FVec Ideal S256x416 .f32} (h164 : ∀ (i : Fin 256) (j : Fin 416), v164 (ix2 i j) = A.kv i j)
    (b : Fin 2) (i : Fin 128) (r : Fin 32) : k0_pay25 v164 (ix3 b i r) = A.kv ⟨128 * b.val + i.val, by omega⟩ ⟨384 + r.val, by omega⟩ := by
  pointwise [k0_pay25]
  simp only [h164, Nat.mul_comm b.val 128]

theorem pay26_read {v200 : FVec Ideal S256x3 .f32} {v212 : FVec Ideal S256x384 .fp8e4m3} {v217 : Vec Ideal S384x6400 .fp8e4m3} {v218 : Vec Ideal S3x50 .f32}
    (h212 : ∀ (i : Fin 256) (x : Fin 384), v212 (ix2 i x) = codeOf (n := 3) rfl A.kvn i x)
    (h200 : ∀ (i : Fin 256) (b : Fin 3), v200 (ix2 i b) = scaleOf (n := 3) rfl A.kvn i b)
    (h217 : ∀ (x : Fin 384) (j : Fin 6400), v217 (ix2 x j) = A.wkvb x j)
    (h218 : ∀ (x : Fin 3) (j : Fin 50), v218 (ix2 x j) = A.skvb x j)
    (b : Fin 2) (i : Fin 128) (h : Fin 40) (d : Fin 160) :
    k0_pay26 v200 v212 v217 v218 (ix4 b i h d) = A.kvb ⟨128 * b.val + i.val, by omega⟩ ⟨160 * h.val + d.val, by omega⟩ := by
  pointwise [k0_pay26]
  simp only [h212, h200, h217, h218, Nat.mul_comm b.val 128, Nat.mul_comm h.val 160]
  rfl

theorem pay27_read {v200 : FVec Ideal S256x3 .f32} {v212 : FVec Ideal S256x384 .fp8e4m3} {v217 : Vec Ideal S384x6400 .fp8e4m3} {v218 : Vec Ideal S3x50 .f32}
    (h26 : ∀ (b : Fin 2) (i : Fin 128) (h : Fin 40) (d : Fin 160), k0_pay26 v200 v212 v217 v218 (ix4 b i h d)
      = A.kvb ⟨128 * b.val + i.val, by omega⟩ ⟨160 * h.val + d.val, by omega⟩)
    (b : Fin 2) (i : Fin 128) (h : Fin 40) (d : Fin 64) :
    k0_pay27 v200 v212 v217 v218 (ix4 b i h d) = A.kvb ⟨128 * b.val + i.val, by omega⟩ ⟨160 * h.val + d.val, by omega⟩ := by
  pointwise [k0_pay27]
  exact h26 _ _ _ _

theorem pay33_read {v200 : FVec Ideal S256x3 .f32} {v212 : FVec Ideal S256x384 .fp8e4m3} {v217 : Vec Ideal S384x6400 .fp8e4m3} {v218 : Vec Ideal S3x50 .f32}
    (h26 : ∀ (b : Fin 2) (i : Fin 128) (h : Fin 40) (d : Fin 160), k0_pay26 v200 v212 v217 v218 (ix4 b i h d)
      = A.kvb ⟨128 * b.val + i.val, by omega⟩ ⟨160 * h.val + d.val, by omega⟩)
    (b : Fin 2) (i : Fin 128) (h : Fin 40) (d : Fin 96) :
    k0_pay33 (k0_pay28 v200 v212 v217 v218) (ix4 b i h d) = A.kvb ⟨128 * b.val + i.val, by omega⟩ ⟨160 * h.val + 64 + d.val, by omega⟩ := by
  pointwise [k0_pay33, k0_pay28]
  refine (h26 _ _ _ _).trans ?_
  congr 1
  exact Fin.ext (by show 160 * h.val + (64 + d.val) = 160 * h.val + 64 + d.val; omega)

theorem pay29_read {v143 : FVec Ideal S2x128x40x32 .f32} {v240 v241 : Vec Ideal S128x16 .f32}
    (h143 : ∀ (b : Fin 2) (i : Fin 128) (h : Fin 40) (r : Fin 32), v143 (ix4 b i h r)
      = A.q ⟨128 * b.val + i.val, by omega⟩ ⟨96 * h.val + 64 + r.val, by omega⟩)
    (h240 : ∀ (i : Fin 128) (p : Fin 16), v240 (ix2 i p) = A.cos i p)
    (h241 : ∀ (i : Fin 128) (p : Fin 16), v241 (ix2 i p) = A.sin i p)
    (b : Fin 2) (i : Fin 128) (h : Fin 40) (r : Fin 32) :
    k0_pay29 v143 v240 v241 (ix4 b i h r) = A.qr h ⟨128 * b.val + i.val, by omega⟩ r := by
  pointwise [k0_pay29]
  have e : ∀ g, (⟨(128 * b.val + i.val) % 128, g⟩ : Fin 128) = i := fun g => Fin.ext (by show (128 * b.val + i.val) % 128 = i.val; omega)
  simp only [h143, h240, h241]
  unfold Ins.qr rot
  simp only [e]
  rfl

theorem pay31_read {v216 : FVec Ideal S2x128x32 .f32}
    (h216 : ∀ (b : Fin 2) (i : Fin 128) (r : Fin 32), v216 (ix3 b i r) = A.kv ⟨128 * b.val + i.val, by omega⟩ ⟨384 + r.val, by omega⟩)
    (b : Fin 2) (i : Fin 128) (p : Fin 16) : k0_pay31 v216 (ix3 b i p) = A.kv ⟨128 * b.val + i.val, by omega⟩ ⟨384 + p.val * 2, by omega⟩ := by
  pointwise [k0_pay31, k0_pay30]
  exact h216 _ _ _

theorem pay32_read {v216 : FVec Ideal S2x128x32 .f32}
    (h216 : ∀ (b : Fin 2) (i : Fin 128) (r : Fin 32), v216 (ix3 b i r) = A.kv ⟨128 * b.val + i.val, by omega⟩ ⟨384 + r.val, by omega⟩)
    (b : Fin 2) (i : Fin 128) (p : Fin 16) : k0_pay32 v216 (ix4 b i p 0) = A.kv ⟨128 * b.val + i.val, by omega⟩ ⟨384 + (p.val * 2 + 1), by omega⟩ := by
  pointwise [k0_pay32, k0_pay30]
  exact h216 _ _ _

theorem pay35_read {v294 : FVec Ideal S2x128x40x96 .bf16} {v323 : FVec Ideal S80x128x128 .f32}
    (h294 : ∀ (b : Fin 2) (i : Fin 128) (h : Fin 40) (d : Fin 96), v294 (ix4 b i h d)
      = A.kvb ⟨128 * b.val + i.val, by omega⟩ ⟨160 * h.val + 64 + d.val, by omega⟩)
    (h323 : ∀ (z : Fin 80) (i k : Fin 128), v323 (ix3 z i k) = A.expo ⟨z.val / 40, by omega⟩ ⟨z.val % 40, by omega⟩ i k)
    (i : Fin 256) (b : Fin 30) (l : Fin 128) : k0_pay35 v294 v323 (ix3 i b l) = A.o i ⟨128 * b.val + l.val, colLt (n := 30) rfl b l⟩ := by
  pointwise [k0_pay35]
  simp only [h294, h323]
  have e1 : (i.val / 128 * 40 + (i.val * 3840 + b.val * 128 + l.val) / 96 % 40) / 40 = i.val / 128 := by omega
  have e2 : (i.val / 128 * 40 + (i.val * 3840 + b.val * 128 + l.val) / 96 % 40) % 40 = (128 * b.val + l.val) / 96 := by omega
  have e3 : (i.val * 3840 + b.val * 128 + l.val) % 96 = (128 * b.val + l.val) % 96 := by omega
  simp only [e1, e2, e3]
  rfl

theorem pay1_read {v2 : FVec Ideal S256x3584 .f32} {v355 : FVec Ideal S256x30 .f32} {v367 : FVec Ideal S256x3840 .fp8e4m3}
    {v370 : Vec Ideal S3840x3584 .fp8e4m3} {v371 : Vec Ideal S30x28 .f32}
    (h2 : ∀ (i : Fin 256) (j : Fin 3584), v2 (ix2 i j) = A.x i j)
    (h355 : ∀ (i : Fin 256) (b : Fin 30), v355 (ix2 i b) = scaleOf (n := 30) rfl A.o i b)
    (h367 : ∀ (i : Fin 256) (x : Fin 3840), v367 (ix2 i x) = codeOf (n := 30) rfl A.o i x)
    (h370 : ∀ (x : Fin 3840) (j : Fin 3584), v370 (ix2 x j) = A.wo x j)
    (h371 : ∀ (x : Fin 30) (j : Fin 28), v371 (ix2 x j) = A.so x j)
    (i : Fin 256) (j : Fin 3584) : k0_pay1 v2 v355 v367 v370 v371 (ix2 i j) = A.y i j := by
  pointwise [k0_pay1]
  simp only [h2, h355, h367, h370, h371]
  rfl

end Cert.ReferenceIdeal.Gen

end
-- ==== Proof.RAttn.lean ====
/-
  The reference's exponentials of masked scores, read at an entry from what their operands hold.
-/
module

public import proofs.«01_k».proof.Proof.Gen.ReferenceIdeal.Skeleton
public import proofs.«01_k».proof.Proof.Spec

@[expose] public section

set_option maxHeartbeats 20000000

noncomputable section

namespace Cert.ReferenceIdeal.Gen

open Cert.Mla Idealize.ShloMosaic Idealize.ShloMosaic.TcCoe

variable (A : Ins)

theorem fold_max_base (c : EReal) {n : ℕ} (f : Fin n → EReal) : max c (Finset.univ.fold max c f) = Finset.univ.fold max c f := by
  rw [max_eq_right]
  exact Finset.le_fold_max c |>.mpr (Or.inl le_rfl)

theorem pay34_read {v142 v238 : FVec Ideal S2x128x40x64 .f32} {v240 v241 : Vec Ideal S128x16 .f32} {v266 : FVec Ideal S2x128x40x32 .f32}
    {v269 : FVec Ideal S2x128x16 .f32} {v270 : FVec Ideal S2x128x16x1 .f32}
    (h142 : ∀ (b : Fin 2) (i : Fin 128) (h : Fin 40) (d : Fin 64), v142 (ix4 b i h d)
      = A.q ⟨128 * b.val + i.val, by omega⟩ ⟨96 * h.val + d.val, by omega⟩)
    (h238 : ∀ (b : Fin 2) (i : Fin 128) (h : Fin 40) (d : Fin 64), v238 (ix4 b i h d)
      = A.kvb ⟨128 * b.val + i.val, by omega⟩ ⟨160 * h.val + d.val, by omega⟩)
    (h240 : ∀ (i : Fin 128) (p : Fin 16), v240 (ix2 i p) = A.cos i p)
    (h241 : ∀ (i : Fin 128) (p : Fin 16), v241 (ix2 i p) = A.sin i p)
    (h266 : ∀ (b : Fin 2) (i : Fin 128) (h : Fin 40) (r : Fin 32), v266 (ix4 b i h r) = A.qr h ⟨128 * b.val + i.val, by omega⟩ r)
    (h269 : ∀ (b : Fin 2) (i : Fin 128) (p : Fin 16), v269 (ix3 b i p) = A.kv ⟨128 * b.val + i.val, by omega⟩ ⟨384 + p.val * 2, by omega⟩)
    (h270 : ∀ (b : Fin 2) (i : Fin 128) (p : Fin 16), v270 (ix4 b i p 0) = A.kv ⟨128 * b.val + i.val, by omega⟩ ⟨384 + (p.val * 2 + 1), by omega⟩)
    (z : Fin 80) (i k : Fin 128) :
    k0_pay34 v142 v238 v240 v241 v266 v269 v270 (ix3 z i k) = A.expo ⟨z.val / 40, by omega⟩ ⟨z.val % 40, by omega⟩ i k := by
  have hk : ∀ (b : Fin 2) (k : Fin 128) (r : Fin 32), A.kr ⟨128 * b.val + k.val, by omega⟩ r = if _h : r.val % 2 < 1 then
      A.kv ⟨128 * b.val + k.val, by omega⟩ ⟨384 + r.val / 2 * 2, by omega⟩ * A.cos k ⟨r.val / 2, by omega⟩
        - A.kv ⟨128 * b.val + k.val, by omega⟩ ⟨384 + (r.val / 2 * 2 + 1), by omega⟩ * A.sin k ⟨r.val / 2, by omega⟩
      else A.kv ⟨128 * b.val + k.val, by omega⟩ ⟨384 + r.val / 2 * 2, by omega⟩ * A.sin k ⟨r.val / 2, by omega⟩
        + A.kv ⟨128 * b.val + k.val, by omega⟩ ⟨384 + (r.val / 2 * 2 + 1), by omega⟩ * A.cos k ⟨r.val / 2, by omega⟩ := by
    intro b k r
    have e : ∀ g, (⟨(128 * b.val + k.val) % 128, g⟩ : Fin 128) = k := fun g => Fin.ext (by show (128 * b.val + k.val) % 128 = k.val; omega)
    unfold Ins.kr rot
    simp only [e]
    by_cases hr : r.val % 2 < 1
    · rw [if_pos hr, dif_pos hr]
    · rw [if_neg hr, dif_neg hr]
  pointwise [k0_pay34]
  rw [fold_max_base]
  simp only [h142, h238, h240, h241, h266, h269, h270]
  unfold Ins.expo Ins.score
  have hk' := hk ⟨z.val / 40, by omega⟩
  simp only [hk']

end Cert.ReferenceIdeal.Gen

end
-- ==== Proof.RRun.lean ====
/-
  What the reference leaves in each of its results, over the extended reals.
-/
module

public import proofs.«01_k».proof.Proof.Gen.ReferenceIdeal.Value
public import proofs.«01_k».proof.Proof.RQuant
public import proofs.«01_k».proof.Proof.RQuantB
public import proofs.«01_k».proof.Proof.RQuantC
public import proofs.«01_k».proof.Proof.RVals
public import proofs.«01_k».proof.Proof.RAttn

@[expose] public section

set_option maxHeartbeats 4000000

noncomputable section

namespace Cert.ReferenceIdeal.Gen

open Cert.Mla Idealize.ShloMosaic Idealize.ShloMosaic.TcCoe Idealize.ShloMosaic.View

theorem zero2 : (![0, 0] : Fin 2 → ℕ) = fun _ => 0 := by
  funext a
  match a with
  | ⟨0, _⟩ => rfl
  | ⟨1, _⟩ => rfl

theorem arr_of {α : Type} {M N : ℕ} {X : (⟨2, ![M, N]⟩ : Shape).Idx → α} {f : Fin M → Fin N → α} (h : ∀ i j, X (ix2 i j) = f i j) : X = Arr f := by
  funext y
  refine Eq.trans ?_ (h (y 0) (y 1))
  congr 1
  funext b
  match b with
  | ⟨0, _⟩ => rfl
  | ⟨1, _⟩ => rfl

/-- The arguments hold the entries of `A`. -/
structure Given (A : Ins)
    (x0 : Vec Ideal S256x3584 .bf16)
    (x1 : Vec Ideal S1x3584 .f32)
    (x2 : Vec Ideal S1x1024 .f32)
    (x3 : Vec Ideal S1x384 .f32)
    (x4 : Vec Ideal S3584x1024 .fp8e4m3)
    (x5 : Vec Ideal S28x8 .f32)
    (x6 : Vec Ideal S1024x3840 .fp8e4m3)
    (x7 : Vec Ideal S8x30 .f32)
    (x8 : Vec Ideal S3584x416 .fp8e4m3)
    (x9 : Vec Ideal S28x4 .f32)
    (x10 : Vec Ideal S384x6400 .fp8e4m3)
    (x11 : Vec Ideal S3x50 .f32)
    (x12 : Vec Ideal S3840x3584 .fp8e4m3)
    (x13 : Vec Ideal S30x28 .f32)
    (x14 : Vec Ideal S128x16 .f32)
    (x15 : Vec Ideal S128x16 .f32) : Prop where
  h0 : x0 = Arr A.x
  h1 : x1 = Arr fun _ => A.g1
  h2 : x2 = Arr fun _ => A.g2
  h3 : x3 = Arr fun _ => A.g3
  h4 : x4 = Arr A.wqa
  h5 : x5 = Arr A.sqa
  h6 : x6 = Arr A.wqb
  h7 : x7 = Arr A.sqb
  h8 : x8 = Arr A.wkva
  h9 : x9 = Arr A.skva
  h10 : x10 = Arr A.wkvb
  h11 : x11 = Arr A.skvb
  h12 : x12 = Arr A.wo
  h13 : x13 = Arr A.so
  h14 : x14 = Arr A.cos
  h15 : x15 = Arr A.sin

variable {A : Ins}
  {x0 : Vec Ideal S256x3584 .bf16}
  {x1 : Vec Ideal S1x3584 .f32}
  {x2 : Vec Ideal S1x1024 .f32}
  {x3 : Vec Ideal S1x384 .f32}
  {x4 : Vec Ideal S3584x1024 .fp8e4m3}
  {x5 : Vec Ideal S28x8 .f32}
  {x6 : Vec Ideal S1024x3840 .fp8e4m3}
  {x7 : Vec Ideal S8x30 .f32}
  {x8 : Vec Ideal S3584x416 .fp8e4m3}
  {x9 : Vec Ideal S28x4 .f32}
  {x10 : Vec Ideal S384x6400 .fp8e4m3}
  {x11 : Vec Ideal S3x50 .f32}
  {x12 : Vec Ideal S3840x3584 .fp8e4m3}
  {x13 : Vec Ideal S30x28 .f32}
  {x14 : Vec Ideal S128x16 .f32}
  {x15 : Vec Ideal S128x16 .f32}
  (Z : Given A x0 x1 x2 x3 x4 x5 x6 x7 x8 x9 x10 x11 x12 x13 x14 x15)

include Z

theorem r_ld0 (i : Fin 256) (j : Fin 3584) : View.ld x0 r0_0 (ix2 i j) = A.x i j := by
  rw [View.ld_unit_zero zero2, Z.h0]
  rfl

theorem r_ld1 (j : Fin 3584) : View.ld x1 r0_1 (ix2 0 j) = A.g1 j := by
  rw [View.ld_unit_zero zero2, Z.h1]
  rfl

theorem r_ld2 (j : Fin 1024) : View.ld x2 r0_5 (ix2 0 j) = A.g2 j := by
  rw [View.ld_unit_zero zero2, Z.h2]
  rfl

theorem r_ld3 (j : Fin 384) : View.ld x3 r0_12 (ix2 0 j) = A.g3 j := by
  rw [View.ld_unit_zero zero2, Z.h3]
  rfl

theorem r_ld4 (i : Fin 3584) (j : Fin 1024) : View.ld x4 r0_3 (ix2 i j) = A.wqa i j := by
  rw [View.ld_unit_zero zero2, Z.h4]
  rfl

theorem r_ld5 (i : Fin 28) (j : Fin 8) : View.ld x5 r0_4 (ix2 i j) = A.sqa i j := by
  rw [View.ld_unit_zero zero2, Z.h5]
  rfl

theorem r_ld6 (i : Fin 1024) (j : Fin 3840) : View.ld x6 r0_8 (ix2 i j) = A.wqb i j := by
  rw [View.ld_unit_zero zero2, Z.h6]
  rfl

theorem r_ld7 (i : Fin 8) (j : Fin 30) : View.ld x7 r0_9 (ix2 i j) = A.sqb i j := by
  rw [View.ld_unit_zero zero2, Z.h7]
  rfl

theorem r_ld8 (i : Fin 3584) (j : Fin 416) : View.ld x8 r0_10 (ix2 i j) = A.wkva i j := by
  rw [View.ld_unit_zero zero2, Z.h8]
  rfl

theorem r_ld9 (i : Fin 28) (j : Fin 4) : View.ld x9 r0_11 (ix2 i j) = A.skva i j := by
  rw [View.ld_unit_zero zero2, Z.h9]
  rfl

theorem r_ld10 (i : Fin 384) (j : Fin 6400) : View.ld x10 r0_15 (ix2 i j) = A.wkvb i j := by
  rw [View.ld_unit_zero zero2, Z.h10]
  rfl

theorem r_ld11 (i : Fin 3) (j : Fin 50) : View.ld x11 r0_16 (ix2 i j) = A.skvb i j := by
  rw [View.ld_unit_zero zero2, Z.h11]
  rfl

theorem r_ld12 (i : Fin 3840) (j : Fin 3584) : View.ld x12 r0_20 (ix2 i j) = A.wo i j := by
  rw [View.ld_unit_zero zero2, Z.h12]
  rfl

theorem r_ld13 (i : Fin 30) (j : Fin 28) : View.ld x13 r0_21 (ix2 i j) = A.so i j := by
  rw [View.ld_unit_zero zero2, Z.h13]
  rfl

theorem r_ld14 (i : Fin 128) (j : Fin 16) : View.ld x14 r0_17 (ix2 i j) = A.cos i j := by
  rw [View.ld_unit_zero zero2, Z.h14]
  rfl

theorem r_ld15 (i : Fin 128) (j : Fin 16) : View.ld x15 r0_17 (ix2 i j) = A.sin i j := by
  rw [View.ld_unit_zero zero2, Z.h15]
  rfl

theorem r_p3 (i : Fin 256) (b : Fin 28) (l : Fin 128) :
    k0_pay3 (View.ld x0 r0_0) (View.ld x1 r0_1) (ix3 i b l) = A.xn i ⟨128 * b.val + l.val, colLt (n := 28) rfl b l⟩ := by
  refine (pay3_read _ _ i b l (colLt (n := 28) rfl b l)).trans ?_
  simp only [r_ld0 Z, r_ld1 Z]
  rfl

theorem r_p39 (i : Fin 256) (b : Fin 28) : k0_pay39 x0 x1 x2 x3 x4 x5 x6 x7 x8 x9 x10 x11 x12 x13 x14 x15 (ix2 i b) = scaleOf (n := 28) rfl A.xn i b := by
  unfold k0_pay39
  rw [pay5_read, pay4_read (r_p3 Z)]
  rfl

theorem r_p41 (i : Fin 256) (j : Fin 3584) : k0_pay41 x0 x1 x2 x3 x4 x5 x6 x7 x8 x9 x10 x11 x12 x13 x14 x15 (ix2 i j) = codeOf (n := 28) rfl A.xn i j := by
  unfold k0_pay41 k0_pay40
  rw [pay7_read, pay6_read, r_p3 Z, pay4_read (r_p3 Z)]
  have e : ∀ g, (⟨128 * (j.val / 128) + j.val % 128, g⟩ : Fin 3584) = j := fun g => Fin.ext (Nat.div_add_mod _ _)
  simp only [e]
  rfl

theorem r_p42 (i : Fin 256) (b : Fin 8) (l : Fin 128) : k0_pay42 x0 x1 x2 x3 x4 x5 x6 x7 x8 x9 x10 x11 x12 x13 x14 x15 (ix3 i b l) = A.cqn i ⟨128 * b.val + l.val, colLt (n := 8) rfl b l⟩ := by
  unfold k0_pay42
  exact pay8_read A (r_p41 Z) (r_p39 Z) (r_ld4 Z) (r_ld5 Z) (r_ld2 Z) i b l

theorem r_p10 (i : Fin 256) (b : Fin 8) : k0_pay10 (k0_pay42 x0 x1 x2 x3 x4 x5 x6 x7 x8 x9 x10 x11 x12 x13 x14 x15) (ix2 i b) = scaleOf (n := 8) rfl A.cqn i b := by
  rw [pay10_read, pay9_read (r_p42 Z)]
  rfl

theorem r_p11 (i : Fin 256) (j : Fin 1024) : k0_pay11 (k0_pay42 x0 x1 x2 x3 x4 x5 x6 x7 x8 x9 x10 x11 x12 x13 x14 x15) (ix2 i j) = codeOf (n := 8) rfl A.cqn i j := by
  rw [pay11_read, r_p42 Z, pay9_read (r_p42 Z)]
  have e : ∀ g, (⟨128 * (j.val / 128) + j.val % 128, g⟩ : Fin 1024) = j := fun g => Fin.ext (Nat.div_add_mod _ _)
  simp only [e]
  rfl

theorem r_p43 (i : Fin 256) (b : Fin 8) (l : Fin 128) : k0_pay43 x0 x1 x2 x3 x4 x5 x6 x7 x8 x9 x10 x11 x12 x13 x14 x15 (ix3 i b l)
    = codeOf (n := 8) rfl A.cqn i ⟨128 * b.val + l.val, colLt (n := 8) rfl b l⟩ := by
  unfold k0_pay43
  rw [pay12_read, r_p11 Z]

theorem r_p44 (i : Fin 256) (b : Fin 8) : k0_pay44 x0 x1 x2 x3 x4 x5 x6 x7 x8 x9 x10 x11 x12 x13 x14 x15 (ix3 i b 0) = scaleOf (n := 8) rfl A.cqn i b := by
  unfold k0_pay44
  rw [pay13_read, r_p10 Z]

theorem r_p14 (b : Fin 2) (i : Fin 128) (h : Fin 40) (d : Fin 96) :
    k0_pay14 (View.ld x6 r0_8) (View.ld x7 r0_9) (k0_pay43 x0 x1 x2 x3 x4 x5 x6 x7 x8 x9 x10 x11 x12 x13 x14 x15) (k0_pay44 x0 x1 x2 x3 x4 x5 x6 x7 x8 x9 x10 x11 x12 x13 x14 x15) (ix4 b i h d)
      = A.q ⟨128 * b.val + i.val, by omega⟩ ⟨96 * h.val + d.val, by omega⟩ :=
  pay14_read A (r_p43 Z) (r_p44 Z) (r_ld6 Z) (r_ld7 Z) b i h d

theorem r_p17 (i : Fin 256) (j : Fin 416) :
    k0_pay17 (k0_pay39 x0 x1 x2 x3 x4 x5 x6 x7 x8 x9 x10 x11 x12 x13 x14 x15) (k0_pay41 x0 x1 x2 x3 x4 x5 x6 x7 x8 x9 x10 x11 x12 x13 x14 x15) (View.ld x8 r0_10) (View.ld x9 r0_11) (ix2 i j) = A.kv i j :=
  pay17_read A (r_p41 Z) (r_p39 Z) (r_ld8 Z) (r_ld9 Z) i j

theorem r_p45 (i : Fin 256) (j : Fin 384) : k0_pay45 x0 x1 x2 x3 x4 x5 x6 x7 x8 x9 x10 x11 x12 x13 x14 x15 (ix2 i j) = A.kvl i j := by
  unfold k0_pay45
  exact pay18_read A (r_p17 Z) i j

theorem r_p46 (j : Fin 384) : k0_pay46 x0 x1 x2 x3 x4 x5 x6 x7 x8 x9 x10 x11 x12 x13 x14 x15 (ix2 0 j) = A.g3 j := by
  unfold k0_pay46
  exact (pay19_read _ j).trans (r_ld3 Z j)

theorem r_p47 (i : Fin 256) : k0_pay47 x0 x1 x2 x3 x4 x5 x6 x7 x8 x9 x10 x11 x12 x13 x14 x15 (ix2 i 0) = Ideal.rsqrt (Ideal.div (∑ l, A.kvl i l * A.kvl i l) (Ideal.ofBits .f32 1136656384#32)
      + Ideal.ofBits .f32 897988541#32) := by
  unfold k0_pay47
  exact pay20_read A (fun i j => pay18_read A (r_p17 Z) i j) i

theorem r_p21 (i : Fin 256) (b : Fin 3) (l : Fin 128) : k0_pay21 (k0_pay45 x0 x1 x2 x3 x4 x5 x6 x7 x8 x9 x10 x11 x12 x13 x14 x15) (k0_pay46 x0 x1 x2 x3 x4 x5 x6 x7 x8 x9 x10 x11 x12 x13 x14 x15) (k0_pay47 x0 x1 x2 x3 x4 x5 x6 x7 x8 x9 x10 x11 x12 x13 x14 x15) (ix3 i b l)
    = A.kvn i ⟨128 * b.val + l.val, colLt (n := 3) rfl b l⟩ :=
  pay21_read A (r_p45 Z) (r_p46 Z) (r_p47 Z) i b l

theorem r_p48 (i : Fin 256) (b : Fin 3) : k0_pay48 x0 x1 x2 x3 x4 x5 x6 x7 x8 x9 x10 x11 x12 x13 x14 x15 (ix2 i b) = scaleOf (n := 3) rfl A.kvn i b := by
  unfold k0_pay48
  rw [pay23_read, pay22_read (r_p21 Z)]
  rfl

theorem r_p49 (i : Fin 256) (j : Fin 384) : k0_pay49 x0 x1 x2 x3 x4 x5 x6 x7 x8 x9 x10 x11 x12 x13 x14 x15 (ix2 i j) = codeOf (n := 3) rfl A.kvn i j := by
  unfold k0_pay49
  rw [pay24_read, r_p21 Z, pay22_read (r_p21 Z)]
  have e : ∀ g, (⟨128 * (j.val / 128) + j.val % 128, g⟩ : Fin 384) = j := fun g => Fin.ext (Nat.div_add_mod _ _)
  simp only [e]
  rfl

theorem r_p50 (b : Fin 2) (i : Fin 128) (r : Fin 32) : k0_pay50 x0 x1 x2 x3 x4 x5 x6 x7 x8 x9 x10 x11 x12 x13 x14 x15 (ix3 b i r)
    = A.kv ⟨128 * b.val + i.val, by omega⟩ ⟨384 + r.val, by omega⟩ := by
  unfold k0_pay50
  exact pay25_read A (r_p17 Z) b i r

theorem r_p26 (b : Fin 2) (i : Fin 128) (h : Fin 40) (d : Fin 160) :
    k0_pay26 (k0_pay48 x0 x1 x2 x3 x4 x5 x6 x7 x8 x9 x10 x11 x12 x13 x14 x15) (k0_pay49 x0 x1 x2 x3 x4 x5 x6 x7 x8 x9 x10 x11 x12 x13 x14 x15) (View.ld x10 r0_15) (View.ld x11 r0_16) (ix4 b i h d)
      = A.kvb ⟨128 * b.val + i.val, by omega⟩ ⟨160 * h.val + d.val, by omega⟩ :=
  pay26_read A (r_p49 Z) (r_p48 Z) (r_ld10 Z) (r_ld11 Z) b i h d

theorem r_p51 (b : Fin 2) (i : Fin 128) (h : Fin 40) (d : Fin 96) : k0_pay51 x0 x1 x2 x3 x4 x5 x6 x7 x8 x9 x10 x11 x12 x13 x14 x15 (ix4 b i h d)
    = A.kvb ⟨128 * b.val + i.val, by omega⟩ ⟨160 * h.val + 64 + d.val, by omega⟩ := by
  unfold k0_pay51
  exact pay33_read A (r_p26 Z) b i h d

theorem r_p52 (z : Fin 80) (i k : Fin 128) : k0_pay52 x0 x1 x2 x3 x4 x5 x6 x7 x8 x9 x10 x11 x12 x13 x14 x15 (ix3 z i k) = A.expo ⟨z.val / 40, by omega⟩ ⟨z.val % 40, by omega⟩ i k := by
  unfold k0_pay52
  exact pay34_read A (pay15_read A (r_p14 Z)) (pay27_read A (r_p26 Z)) (r_ld14 Z) (r_ld15 Z)
    (pay29_read A (pay16_read A (r_p14 Z)) (r_ld14 Z) (r_ld15 Z)) (pay31_read A (r_p50 Z)) (pay32_read A (r_p50 Z)) z i k

theorem r_p35 (i : Fin 256) (b : Fin 30) (l : Fin 128) : k0_pay35 (k0_pay51 x0 x1 x2 x3 x4 x5 x6 x7 x8 x9 x10 x11 x12 x13 x14 x15) (k0_pay52 x0 x1 x2 x3 x4 x5 x6 x7 x8 x9 x10 x11 x12 x13 x14 x15) (ix3 i b l)
    = A.o i ⟨128 * b.val + l.val, colLt (n := 30) rfl b l⟩ :=
  pay35_read A (r_p51 Z) (r_p52 Z) i b l

theorem r_p53 (i : Fin 256) (b : Fin 30) : k0_pay53 x0 x1 x2 x3 x4 x5 x6 x7 x8 x9 x10 x11 x12 x13 x14 x15 (ix2 i b) = scaleOf (n := 30) rfl A.o i b := by
  unfold k0_pay53
  rw [pay37_read, pay36_read (r_p35 Z)]
  rfl

theorem r_p38 (i : Fin 256) (j : Fin 3840) : k0_pay38 (k0_pay51 x0 x1 x2 x3 x4 x5 x6 x7 x8 x9 x10 x11 x12 x13 x14 x15) (k0_pay52 x0 x1 x2 x3 x4 x5 x6 x7 x8 x9 x10 x11 x12 x13 x14 x15) (ix2 i j) = codeOf (n := 30) rfl A.o i j := by
  rw [pay38_read, r_p35 Z, pay36_read (r_p35 Z)]
  have e : ∀ g, (⟨128 * (j.val / 128) + j.val % 128, g⟩ : Fin 3840) = j := fun g => Fin.ext (Nat.div_add_mod _ _)
  simp only [e]
  rfl

theorem r_o16 : out0_16 x0 x1 x2 x3 x4 x5 x6 x7 x8 x9 x10 x11 x12 x13 x14 x15 = Arr A.y := by
  unfold out0_16
  exact (View.canon_unit_zero zero2 _ _).trans (arr_of (pay1_read A (fun i j => (pay2_read _ i j).trans (r_ld0 Z i j)) (r_p53 Z) (r_p38 Z) (r_ld12 Z) (r_ld13 Z)))

theorem r_o17 : out0_17 x0 x1 x2 x3 x4 x5 x6 x7 x8 x9 x10 x11 x12 x13 x14 x15 = Arr (codeOf (n := 28) rfl A.xn) := by
  unfold out0_17
  exact (View.canon_unit_zero zero2 _ _).trans (arr_of (r_p41 Z))

theorem r_o18 : out0_18 x0 x1 x2 x3 x4 x5 x6 x7 x8 x9 x10 x11 x12 x13 x14 x15 = Arr (scaleOf (n := 28) rfl A.xn) := by
  unfold out0_18
  exact (View.canon_unit_zero zero2 _ _).trans (arr_of (r_p39 Z))

theorem r_o19 : out0_19 x0 x1 x2 x3 x4 x5 x6 x7 x8 x9 x10 x11 x12 x13 x14 x15 = Arr (codeOf (n := 8) rfl A.cqn) := by
  unfold out0_19
  exact (View.canon_unit_zero zero2 _ _).trans (arr_of (r_p11 Z))

theorem r_o20 : out0_20 x0 x1 x2 x3 x4 x5 x6 x7 x8 x9 x10 x11 x12 x13 x14 x15 = Arr (scaleOf (n := 8) rfl A.cqn) := by
  unfold out0_20
  exact (View.canon_unit_zero zero2 _ _).trans (arr_of (r_p10 Z))

theorem r_o21 : out0_21 x0 x1 x2 x3 x4 x5 x6 x7 x8 x9 x10 x11 x12 x13 x14 x15 = Arr (codeOf (n := 3) rfl A.kvn) := by
  unfold out0_21
  exact (View.canon_unit_zero zero2 _ _).trans (arr_of (r_p49 Z))

theorem r_o22 : out0_22 x0 x1 x2 x3 x4 x5 x6 x7 x8 x9 x10 x11 x12 x13 x14 x15 = Arr (scaleOf (n := 3) rfl A.kvn) := by
  unfold out0_22
  exact (View.canon_unit_zero zero2 _ _).trans (arr_of (r_p48 Z))

theorem r_o23 : out0_23 x0 x1 x2 x3 x4 x5 x6 x7 x8 x9 x10 x11 x12 x13 x14 x15 = Arr (codeOf (n := 30) rfl A.o) := by
  unfold out0_23
  exact (View.canon_unit_zero zero2 _ _).trans (arr_of (r_p38 Z))

theorem r_o24 : out0_24 x0 x1 x2 x3 x4 x5 x6 x7 x8 x9 x10 x11 x12 x13 x14 x15 = Arr (scaleOf (n := 30) rfl A.o) := by
  unfold out0_24
  exact (View.canon_unit_zero zero2 _ _).trans (arr_of (r_p53 Z))

end Cert.ReferenceIdeal.Gen

end
-- ==== Proof.RTop.lean ====
/-
  What the reference's run leaves in its results, from its arguments, over the extended reals.
-/
module

public import proofs.«01_k».proof.Proof.RRun
public import proofs.«01_k».proof.Proof.Args
public import Idealize.ShloMosaic.Lib.Pipeline.ValueKit

@[expose] public section

noncomputable section

namespace Cert.ReferenceIdeal.Gen

open Cert.Mla Idealize.ShloMosaic Idealize.ShloMosaic.TcCoe Idealize.ShloMosaic.View
open Idealize.ShloMosaic.Pipeline (Dat)

variable (m : (ℓ : Loc nD τ sig) → Buf (Elt Ideal) ℓ)

/-- The entries the program's arguments hold. -/
def args (c : Dev nD) : Ins :=
  insOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## What the arrays hold when the kernel starts -/

theorem host_x (c : Dev nD) (i : Fin 256) (j : Fin 3584) : (V m c main_v0 : S256x3584.Idx → EReal) (ix2 i j) = (args m c).x i j := by
  unfold V hostOps0
  after_results_simp
  pointwise
  rfl

theorem host_g1 (c : Dev nD) (i : Fin 1) (j : Fin 3584) : (V m c main_v1 : S1x3584.Idx → EReal) (ix2 i j) = (args m c).g1 j := by
  unfold V hostOps0
  after_results_simp
  pointwise
  rfl

theorem host_g2 (c : Dev nD) (i : Fin 1) (j : Fin 1024) : (V m c main_v2 : S1x1024.Idx → EReal) (ix2 i j) = (args m c).g2 j := by
  unfold V hostOps0
  after_results_simp
  pointwise
  rfl

theorem host_g3 (c : Dev nD) (i : Fin 1) (j : Fin 384) : (V m c main_v3 : S1x384.Idx → EReal) (ix2 i j) = (args m c).g3 j := by
  unfold V hostOps0
  after_results_simp
  pointwise
  rfl

theorem place (i : Fin 128) (j : Fin 16) : (S128x16.rowMajor (ix2 i j)).val = i.val * 16 + j.val := by
  show (Shape.rowMajorPi ![128, 16] (ix2 i j)).val = _
  simp [Shape.rowMajorPi_succ_val]

theorem host_cos (c : Dev nD) (i : Fin 128) (j : Fin 16) :
    (V m c main_cst : S128x16.Idx → EReal) (ix2 i j) = Ideal.ofBits .f32 (lit0t (i.val * 16 + j.val)) := by
  unfold V hostOps0
  after_results_simp
  pointwise
  show Ideal.ofBits .f32 (lit0t (S128x16.rowMajor (ix2 i j)).val) = _
  rw [place]

theorem host_sin (c : Dev nD) (i : Fin 128) (j : Fin 16) :
    (V m c main_cst_0 : S128x16.Idx → EReal) (ix2 i j) = Ideal.ofBits .f32 (lit1t (i.val * 16 + j.val)) := by
  unfold V hostOps0
  after_results_simp
  pointwise
  show Ideal.ofBits .f32 (lit1t (S128x16.rowMajor (ix2 i j)).val) = _
  rw [place]

/-! ## The windows' blocks: each the whole array -/

theorem blk0 (c : Dev nD) (t : Fin cfg0.N) : iblk m c 0 t = (V m c main_v0 : S256x3584.Idx → EReal) := by
  generalize hV : V m c = W
  funext y
  unfold iblk
  rw [hV]
  blk_ext
  all_goals
    first
    | show 0 * _ + _ = _
      omega
    | rfl

theorem blk1 (c : Dev nD) (t : Fin cfg0.N) : iblk m c 1 t = (V m c main_v1 : S1x3584.Idx → EReal) := by
  generalize hV : V m c = W
  funext y
  unfold iblk
  rw [hV]
  blk_ext
  all_goals
    first
    | show 0 * _ + _ = _
      omega
    | rfl

theorem blk2 (c : Dev nD) (t : Fin cfg0.N) : iblk m c 2 t = (V m c main_v2 : S1x1024.Idx → EReal) := by
  generalize hV : V m c = W
  funext y
  unfold iblk
  rw [hV]
  blk_ext
  all_goals
    first
    | show 0 * _ + _ = _
      omega
    | rfl

theorem blk3 (c : Dev nD) (t : Fin cfg0.N) : iblk m c 3 t = (V m c main_v3 : S1x384.Idx → EReal) := by
  generalize hV : V m c = W
  funext y
  unfold iblk
  rw [hV]
  blk_ext
  all_goals
    first
    | show 0 * _ + _ = _
      omega
    | rfl

theorem blk4 (c : Dev nD) (t : Fin cfg0.N) : iblk m c 4 t = (V m c main_arg4 : S3584x1024.Idx → EReal) := by
  generalize hV : V m c = W
  funext y
  unfold iblk
  rw [hV]
  blk_ext
  all_goals
    first
    | show 0 * _ + _ = _
      omega
    | rfl

theorem blk5 (c : Dev nD) (t : Fin cfg0.N) : iblk m c 5 t = (V m c main_arg5 : S28x8.Idx → EReal) := by
  generalize hV : V m c = W
  funext y
  unfold iblk
  rw [hV]
  blk_ext
  all_goals
    first
    | show 0 * _ + _ = _
      omega
    | rfl

theorem blk6 (c : Dev nD) (t : Fin cfg0.N) : iblk m c 6 t = (V m c main_arg6 : S1024x3840.Idx → EReal) := by
  generalize hV : V m c = W
  funext y
  unfold iblk
  rw [hV]
  blk_ext
  all_goals
    first
    | show 0 * _ + _ = _
      omega
    | rfl

theorem blk7 (c : Dev nD) (t : Fin cfg0.N) : iblk m c 7 t = (V m c main_arg7 : S8x30.Idx → EReal) := by
  generalize hV : V m c = W
  funext y
  unfold iblk
  rw [hV]
  blk_ext
  all_goals
    first
    | show 0 * _ + _ = _
      omega
    | rfl

theorem blk8 (c : Dev nD) (t : Fin cfg0.N) : iblk m c 8 t = (V m c main_arg8 : S3584x416.Idx → EReal) := by
  generalize hV : V m c = W
  funext y
  unfold iblk
  rw [hV]
  blk_ext
  all_goals
    first
    | show 0 * _ + _ = _
      omega
    | rfl

theorem blk9 (c : Dev nD) (t : Fin cfg0.N) : iblk m c 9 t = (V m c main_arg9 : S28x4.Idx → EReal) := by
  generalize hV : V m c = W
  funext y
  unfold iblk
  rw [hV]
  blk_ext
  all_goals
    first
    | show 0 * _ + _ = _
      omega
    | rfl

theorem blk10 (c : Dev nD) (t : Fin cfg0.N) : iblk m c 10 t = (V m c main_arg10 : S384x6400.Idx → EReal) := by
  generalize hV : V m c = W
  funext y
  unfold iblk
  rw [hV]
  blk_ext
  all_goals
    first
    | show 0 * _ + _ = _
      omega
    | rfl

theorem blk11 (c : Dev nD) (t : Fin cfg0.N) : iblk m c 11 t = (V m c main_arg11 : S3x50.Idx → EReal) := by
  generalize hV : V m c = W
  funext y
  unfold iblk
  rw [hV]
  blk_ext
  all_goals
    first
    | show 0 * _ + _ = _
      omega
    | rfl

theorem blk12 (c : Dev nD) (t : Fin cfg0.N) : iblk m c 12 t = (V m c main_arg12 : S3840x3584.Idx → EReal) := by
  generalize hV : V m c = W
  funext y
  unfold iblk
  rw [hV]
  blk_ext
  all_goals
    first
    | show 0 * _ + _ = _
      omega
    | rfl

theorem blk13 (c : Dev nD) (t : Fin cfg0.N) : iblk m c 13 t = (V m c main_arg13 : S30x28.Idx → EReal) := by
  generalize hV : V m c = W
  funext y
  unfold iblk
  rw [hV]
  blk_ext
  all_goals
    first
    | show 0 * _ + _ = _
      omega
    | rfl

theorem blk14 (c : Dev nD) (t : Fin cfg0.N) : iblk m c 14 t = (V m c main_cst : S128x16.Idx → EReal) := by
  generalize hV : V m c = W
  funext y
  unfold iblk
  rw [hV]
  blk_ext
  all_goals
    first
    | show 0 * _ + _ = _
      omega
    | rfl

theorem blk15 (c : Dev nD) (t : Fin cfg0.N) : iblk m c 15 t = (V m c main_cst_0 : S128x16.Idx → EReal) := by
  generalize hV : V m c = W
  funext y
  unfold iblk
  rw [hV]
  blk_ext
  all_goals
    first
    | show 0 * _ + _ = _
      omega
    | rfl

theorem given (c : Dev nD) (t : Fin cfg0.N) : Given (args m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) where
  h0 := (blk0 m c t).trans (arr_of (host_x m c))
  h1 := (blk1 m c t).trans (arr_of (host_g1 m c))
  h2 := (blk2 m c t).trans (arr_of (host_g2 m c))
  h3 := (blk3 m c t).trans (arr_of (host_g3 m c))
  h4 := ((blk4 m c t).trans (V_main_arg4 m c)).trans (arr_of fun _ _ => rfl)
  h5 := ((blk5 m c t).trans (V_main_arg5 m c)).trans (arr_of fun _ _ => rfl)
  h6 := ((blk6 m c t).trans (V_main_arg6 m c)).trans (arr_of fun _ _ => rfl)
  h7 := ((blk7 m c t).trans (V_main_arg7 m c)).trans (arr_of fun _ _ => rfl)
  h8 := ((blk8 m c t).trans (V_main_arg8 m c)).trans (arr_of fun _ _ => rfl)
  h9 := ((blk9 m c t).trans (V_main_arg9 m c)).trans (arr_of fun _ _ => rfl)
  h10 := ((blk10 m c t).trans (V_main_arg10 m c)).trans (arr_of fun _ _ => rfl)
  h11 := ((blk11 m c t).trans (V_main_arg11 m c)).trans (arr_of fun _ _ => rfl)
  h12 := ((blk12 m c t).trans (V_main_arg12 m c)).trans (arr_of fun _ _ => rfl)
  h13 := ((blk13 m c t).trans (V_main_arg13 m c)).trans (arr_of fun _ _ => rfl)
  h14 := (blk14 m c t).trans (arr_of (host_cos m c))
  h15 := (blk15 m c t).trans (arr_of (host_sin m c))

/-! ## What the results hold after the run -/

theorem result16 (c : Dev nD) :
    (dats m 0 c).arrAt 16 cfg0.N = (Arr (args m c).y : S256x3584.Idx → EReal) := by
  refine (dats m 0 c).arrAt_eq_of_covers 16 _ (by decide +kernel) fun t hf y => ?_
  blk_simp
  rw [after0_16]
  rw [r_o16 (given m c t)]
  blk_ext
  all_goals
    show _ = 0 * _ + _
    omega

theorem result17 (c : Dev nD) :
    (dats m 0 c).arrAt 17 cfg0.N = (Arr (codeOf (n := 28) rfl (args m c).xn) : S256x3584.Idx → EReal) := by
  refine (dats m 0 c).arrAt_eq_of_covers 17 _ (by decide +kernel) fun t hf y => ?_
  blk_simp
  rw [after0_17]
  rw [r_o17 (given m c t)]
  blk_ext
  all_goals
    show _ = 0 * _ + _
    omega

theorem result18 (c : Dev nD) :
    (dats m 0 c).arrAt 18 cfg0.N = (Arr (scaleOf (n := 28) rfl (args m c).xn) : S256x28.Idx → EReal) := by
  refine (dats m 0 c).arrAt_eq_of_covers 18 _ (by decide +kernel) fun t hf y => ?_
  blk_simp
  rw [after0_18]
  rw [r_o18 (given m c t)]
  blk_ext
  all_goals
    show _ = 0 * _ + _
    omega

theorem result19 (c : Dev nD) :
    (dats m 0 c).arrAt 19 cfg0.N = (Arr (codeOf (n := 8) rfl (args m c).cqn) : S256x1024.Idx → EReal) := by
  refine (dats m 0 c).arrAt_eq_of_covers 19 _ (by decide +kernel) fun t hf y => ?_
  blk_simp
  rw [after0_19]
  rw [r_o19 (given m c t)]
  blk_ext
  all_goals
    show _ = 0 * _ + _
    omega

theorem result20 (c : Dev nD) :
    (dats m 0 c).arrAt 20 cfg0.N = (Arr (scaleOf (n := 8) rfl (args m c).cqn) : S256x8.Idx → EReal) := by
  refine (dats m 0 c).arrAt_eq_of_covers 20 _ (by decide +kernel) fun t hf y => ?_
  blk_simp
  rw [after0_20]
  rw [r_o20 (given m c t)]
  blk_ext
  all_goals
    show _ = 0 * _ + _
    omega

theorem result21 (c : Dev nD) :
    (dats m 0 c).arrAt 21 cfg0.N = (Arr (codeOf (n := 3) rfl (args m c).kvn) : S256x384.Idx → EReal) := by
  refine (dats m 0 c).arrAt_eq_of_covers 21 _ (by decide +kernel) fun t hf y => ?_
  blk_simp
  rw [after0_21]
  rw [r_o21 (given m c t)]
  blk_ext
  all_goals
    show _ = 0 * _ + _
    omega

theorem result22 (c : Dev nD) :
    (dats m 0 c).arrAt 22 cfg0.N = (Arr (scaleOf (n := 3) rfl (args m c).kvn) : S256x3.Idx → EReal) := by
  refine (dats m 0 c).arrAt_eq_of_covers 22 _ (by decide +kernel) fun t hf y => ?_
  blk_simp
  rw [after0_22]
  rw [r_o22 (given m c t)]
  blk_ext
  all_goals
    show _ = 0 * _ + _
    omega

theorem result23 (c : Dev nD) :
    (dats m 0 c).arrAt 23 cfg0.N = (Arr (codeOf (n := 30) rfl (args m c).o) : S256x3840.Idx → EReal) := by
  refine (dats m 0 c).arrAt_eq_of_covers 23 _ (by decide +kernel) fun t hf y => ?_
  blk_simp
  rw [after0_23]
  rw [r_o23 (given m c t)]
  blk_ext
  all_goals
    show _ = 0 * _ + _
    omega

theorem result24 (c : Dev nD) :
    (dats m 0 c).arrAt 24 cfg0.N = (Arr (scaleOf (n := 30) rfl (args m c).o) : S256x30.Idx → EReal) := by
  refine (dats m 0 c).arrAt_eq_of_covers 24 _ (by decide +kernel) fun t hf y => ?_
  blk_simp
  rw [after0_24]
  rw [r_o24 (given m c t)]
  blk_ext
  all_goals
    show _ = 0 * _ + _
    omega

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelIdeal.Value
public import proofs.«01_k».proof.Proof.KTop
public import proofs.«01_k».proof.Proof.RTop
public import Idealize.ShloMosaic.Adequacy
public import Idealize.ShloMosaic.Init

@[expose] public section

set_option maxHeartbeats 8000000

noncomputable section

namespace Cert.Proof

open Idealize.ShloMosaic Idealize.ShloMosaic.TcCoe Idealize.SL.Sem Cert.Mla

theorem insOf_congr {a0 a1 a2 a3 a4 a5 a6 a7 a8 a9 a10 a11 a12 a13} {b0 b1 b2 b3 b4 b5 b6 b7 b8 b9 b10 b11 b12 b13}
    (h0 : a0 = b0)
    (h1 : a1 = b1)
    (h2 : a2 = b2)
    (h3 : a3 = b3)
    (h4 : a4 = b4)
    (h5 : a5 = b5)
    (h6 : a6 = b6)
    (h7 : a7 = b7)
    (h8 : a8 = b8)
    (h9 : a9 = b9)
    (h10 : a10 = b10)
    (h11 : a11 = b11)
    (h12 : a12 = b12)
    (h13 : a13 = b13) :
    insOf a0 a1 a2 a3 a4 a5 a6 a7 a8 a9 a10 a11 a12 a13 = insOf b0 b1 b2 b3 b4 b5 b6 b7 b8 b9 b10 b11 b12 b13 := by
  subst h0 h1 h2 h3 h4 h5 h6 h7 h8 h9 h10 h11 h12 h13
  rfl

/-- From equal arguments the kernel and the reference leave equal arrays in all nine results. -/
theorem algebraic : Cert.algebraic_KernelIdeal_ReferenceIdeal (hKernelIdeal := Cert.KernelIdeal.Gen.facts)
    (hReferenceIdeal := Cert.ReferenceIdeal.Gen.facts) := by
  intro m g m' g' _ h
  have same : ∀ c : Dev Cert.KernelIdeal.nD, Cert.ReferenceIdeal.Gen.args m' c = Cert.KernelIdeal.Gen.args m c := fun c => by
    obtain ⟨h0, h1, h2, h3, h4, h5, h6, h7, h8, h9, h10, h11, h12, h13⟩ := h c
    exact insOf_congr h0 h1 h2 h3 h4 h5 h6 h7 h8 h9 h10 h11 h12 h13
  refine ⟨fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, fun c => (Cert.KernelIdeal.Gen.dats m 0 c).arrAt 21 Cert.KernelIdeal.cfg0.N, fun c => (Cert.KernelIdeal.Gen.dats m 0 c).arrAt 22 Cert.KernelIdeal.cfg0.N, fun c => (Cert.KernelIdeal.Gen.dats m 0 c).arrAt 23 Cert.KernelIdeal.cfg0.N, fun c => (Cert.KernelIdeal.Gen.dats m 0 c).arrAt 24 Cert.KernelIdeal.cfg0.N,
    Cert.KernelIdeal.Value.run_blocks m g, ?_⟩
  refine (θ_run Cert.ReferenceIdeal.defs _ _).mono (fun r hr c => ?_) (Cert.ReferenceIdeal.Value.run_blocks m' g')
  obtain ⟨p0, p1, p2, p3, p4, p5, p6, p7, p8, q⟩ := hr c
  exact ⟨p0.trans ((Cert.ReferenceIdeal.Gen.result16 m' c).trans
        ((congrArg (fun A : Ins => Arr A.y) (same c)).trans (Cert.KernelIdeal.Gen.result16 m c).symm)),
      p1.trans ((Cert.ReferenceIdeal.Gen.result17 m' c).trans
        ((congrArg (fun A : Ins => Arr (codeOf (n := 28) rfl A.xn)) (same c)).trans (Cert.KernelIdeal.Gen.result17 m c).symm)),
      p2.trans ((Cert.ReferenceIdeal.Gen.result18 m' c).trans
        ((congrArg (fun A : Ins => Arr (scaleOf (n := 28) rfl A.xn)) (same c)).trans (Cert.KernelIdeal.Gen.result18 m c).symm)),
      p3.trans ((Cert.ReferenceIdeal.Gen.result19 m' c).trans
        ((congrArg (fun A : Ins => Arr (codeOf (n := 8) rfl A.cqn)) (same c)).trans (Cert.KernelIdeal.Gen.result19 m c).symm)),
      p4.trans ((Cert.ReferenceIdeal.Gen.result20 m' c).trans
        ((congrArg (fun A : Ins => Arr (scaleOf (n := 8) rfl A.cqn)) (same c)).trans (Cert.KernelIdeal.Gen.result20 m c).symm)),
      p5.trans ((Cert.ReferenceIdeal.Gen.result21 m' c).trans
        ((congrArg (fun A : Ins => Arr (codeOf (n := 3) rfl A.kvn)) (same c)).trans (Cert.KernelIdeal.Gen.result21 m c).symm)),
      p6.trans ((Cert.ReferenceIdeal.Gen.result22 m' c).trans
        ((congrArg (fun A : Ins => Arr (scaleOf (n := 3) rfl A.kvn)) (same c)).trans (Cert.KernelIdeal.Gen.result22 m c).symm)),
      p7.trans ((Cert.ReferenceIdeal.Gen.result23 m' c).trans
        ((congrArg (fun A : Ins => Arr (codeOf (n := 30) rfl A.o)) (same c)).trans (Cert.KernelIdeal.Gen.result23 m c).symm)),
      p8.trans ((Cert.ReferenceIdeal.Gen.result24 m' c).trans
        ((congrArg (fun A : Ins => Arr (scaleOf (n := 30) rfl A.o)) (same c)).trans (Cert.KernelIdeal.Gen.result24 m c).symm)), q⟩

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    ⟨IdealRules.named_const.statement Cert.KernelIdeal.κ "inv_d_model" .f32 0x39924925#32 ((1 / 3584 : ℝ) : EReal) rfl,
      IdealRules.named_const.statement Cert.KernelIdeal.κ "inv_kv_lora" .f32 0x3B2AAAAB#32 ((1 / 384 : ℝ) : EReal) rfl⟩,
    algebraic⟩

end Cert.Proof

end
